-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![32768, 512]⟩ 0 32 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1x512 : Shape := ⟨2, ![1, 512]⟩
abbrev S7x1x512 : Shape := ⟨3, ![7, 1, 512]⟩
abbrev S3x1x512 : Shape := ⟨3, ![3, 1, 512]⟩
abbrev S7 : Shape := ⟨1, ![7]⟩
abbrev S3 : Shape := ⟨1, ![3]⟩
abbrev S_ : Shape := ⟨0, ![]⟩
abbrev S512 : Shape := ⟨1, ![512]⟩
abbrev S1 : Shape := ⟨1, ![1]⟩
abbrev S1x1x512 : Shape := ⟨3, ![1, 1, 512]⟩

abbrev nBuf : Space → Nat
  | .hbm => 2
  | .vmem => 6
  | .smem => 0
  | _ => 0

abbrev bufTy : (tb : Table) → Fin (tcTables nBuf tb) → BufTy
  | .hbm, ⟨0, _⟩ => ⟨S1024x512, .bf16⟩
  | .hbm, ⟨1, _⟩ => ⟨S1x512, .f32⟩
  | .local _ .vmem, ⟨0, _⟩ => ⟨S1024x512, .bf16⟩
  | .local _ .vmem, ⟨1, _⟩ => ⟨S1x512, .f32⟩
  | .local _ .vmem, ⟨2, _⟩ => ⟨S1x512, .bf16⟩
  | .local _ .vmem, ⟨3, _⟩ => ⟨S1x512, .bf16⟩
  | .local _ .vmem, ⟨4, _⟩ => ⟨S7x1x512, .bf16⟩
  | .local _ .vmem, ⟨5, _⟩ => ⟨S3x1x512, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  (ofTc nBuf bufTy 1 22 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.xori v2 c1_i32_0
  let c1_i32_2 : BitVec 32 := 1#32
  let v5 : BitVec 32 := Scalar.muli v4 c1_i32_2
  let v6 : BitVec 32 := Scalar.addi c0_i32 v5
  v6.toNat
def k0_dev2 (d0 : Dev nD) : Nat :=
  let c0_i32_5 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v7 : BitVec 32 := Scalar.xori v2 c2_i32
  let c1_i32_4 : BitVec 32 := 1#32
  let v8 : BitVec 32 := Scalar.muli v7 c1_i32_4
  let v9 : BitVec 32 := Scalar.addi c0_i32_5 v8
  v9.toNat
def k0_dev3 (d0 : Dev nD) : Nat :=
  let c0_i32_8 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v10 : BitVec 32 := Scalar.xori v2 c3_i32
  let c1_i32_7 : BitVec 32 := 1#32
  let v11 : BitVec 32 := Scalar.muli v10 c1_i32_7
  let v12 : BitVec 32 := Scalar.addi c0_i32_8 v11
  v12.toNat
def k0_dev4 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v13 : BitVec 32 := Scalar.xori v2 c4_i32
  let c1_i32_10 : BitVec 32 := 1#32
  let v14 : BitVec 32 := Scalar.muli v13 c1_i32_10
  let v15 : BitVec 32 := Scalar.addi c0_i32_11 v14
  v15.toNat
def k0_dev5 (d0 : Dev nD) : Nat :=
  let c0_i32_14 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v16 : BitVec 32 := Scalar.xori v2 c5_i32
  let c1_i32_13 : BitVec 32 := 1#32
  let v17 : BitVec 32 := Scalar.muli v16 c1_i32_13
  let v18 : BitVec 32 := Scalar.addi c0_i32_14 v17
  v18.toNat
def k0_dev6 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v19 : BitVec 32 := Scalar.xori v2 c6_i32
  let c1_i32_16 : BitVec 32 := 1#32
  let v20 : BitVec 32 := Scalar.muli v19 c1_i32_16
  let v21 : BitVec 32 := Scalar.addi c0_i32_17 v20
  v21.toNat
def k0_dev7 (d0 : Dev nD) : Nat :=
  let c0_i32_20 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v22 : BitVec 32 := Scalar.xori v2 c7_i32
  let c1_i32_19 : BitVec 32 := 1#32
  let v23 : BitVec 32 := Scalar.muli v22 c1_i32_19
  let v24 : BitVec 32 := Scalar.addi c0_i32_20 v23
  v24.toNat
def k0_dev8 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v25 : BitVec 32 := Scalar.xori v2 c8_i32
  let c1_i32_22 : BitVec 32 := 1#32
  let v26 : BitVec 32 := Scalar.muli v25 c1_i32_22
  let v27 : BitVec 32 := Scalar.addi c0_i32_23 v26
  v27.toNat
def k0_dev9 (d0 : Dev nD) : Nat :=
  let c0_i32_26 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v28 : BitVec 32 := Scalar.xori v2 c16_i32
  let c1_i32_25 : BitVec 32 := 1#32
  let v29 : BitVec 32 := Scalar.muli v28 c1_i32_25
  let v30 : BitVec 32 := Scalar.addi c0_i32_26 v29
  v30.toNat
def k0_dev10 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v31 : BitVec 32 := Scalar.xori v2 c24_i32
  let c1_i32_28 : BitVec 32 := 1#32
  let v32 : BitVec 32 := Scalar.muli v31 c1_i32_28
  let v33 : BitVec 32 := Scalar.addi c0_i32_29 v32
  v33.toNat
def k0_dev11 (d0 : Dev nD) : Nat :=
  let c0_i32_38 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_33 : BitVec 32 := 1#32
  let v41 : BitVec 32 := Scalar.xori v2 c1_i32_33
  let c1_i32_37 : BitVec 32 := 1#32
  let v42 : BitVec 32 := Scalar.muli v41 c1_i32_37
  let v43 : BitVec 32 := Scalar.addi c0_i32_38 v42
  v43.toNat
def k0_dev12 (d0 : Dev nD) : Nat :=
  let c0_i32_46 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_41 : BitVec 32 := 2#32
  let v50 : BitVec 32 := Scalar.xori v2 c2_i32_41
  let c1_i32_45 : BitVec 32 := 1#32
  let v51 : BitVec 32 := Scalar.muli v50 c1_i32_45
  let v52 : BitVec 32 := Scalar.addi c0_i32_46 v51
  v52.toNat
def k0_dev13 (d0 : Dev nD) : Nat :=
  let c0_i32_54 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_49 : BitVec 32 := 3#32
  let v59 : BitVec 32 := Scalar.xori v2 c3_i32_49
  let c1_i32_53 : BitVec 32 := 1#32
  let v60 : BitVec 32 := Scalar.muli v59 c1_i32_53
  let v61 : BitVec 32 := Scalar.addi c0_i32_54 v60
  v61.toNat
def k0_dev14 (d0 : Dev nD) : Nat :=
  let c0_i32_62 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_57 : BitVec 32 := 4#32
  let v68 : BitVec 32 := Scalar.xori v2 c4_i32_57
  let c1_i32_61 : BitVec 32 := 1#32
  let v69 : BitVec 32 := Scalar.muli v68 c1_i32_61
  let v70 : BitVec 32 := Scalar.addi c0_i32_62 v69
  v70.toNat
def k0_dev15 (d0 : Dev nD) : Nat :=
  let c0_i32_70 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_65 : BitVec 32 := 5#32
  let v77 : BitVec 32 := Scalar.xori v2 c5_i32_65
  let c1_i32_69 : BitVec 32 := 1#32
  let v78 : BitVec 32 := Scalar.muli v77 c1_i32_69
  let v79 : BitVec 32 := Scalar.addi c0_i32_70 v78
  v79.toNat
def k0_dev16 (d0 : Dev nD) : Nat :=
  let c0_i32_78 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_73 : BitVec 32 := 6#32
  let v86 : BitVec 32 := Scalar.xori v2 c6_i32_73
  let c1_i32_77 : BitVec 32 := 1#32
  let v87 : BitVec 32 := Scalar.muli v86 c1_i32_77
  let v88 : BitVec 32 := Scalar.addi c0_i32_78 v87
  v88.toNat
def k0_dev17 (d0 : Dev nD) : Nat :=
  let c0_i32_86 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_81 : BitVec 32 := 7#32
  let v95 : BitVec 32 := Scalar.xori v2 c7_i32_81
  let c1_i32_85 : BitVec 32 := 1#32
  let v96 : BitVec 32 := Scalar.muli v95 c1_i32_85
  let v97 : BitVec 32 := Scalar.addi c0_i32_86 v96
  v97.toNat
def k0_dev18 (d0 : Dev nD) : Nat :=
  let c0_i32_151 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_146 : BitVec 32 := 8#32
  let v153 : BitVec 32 := Scalar.xori v2 c8_i32_146
  let c1_i32_150 : BitVec 32 := 1#32
  let v154 : BitVec 32 := Scalar.muli v153 c1_i32_150
  let v155 : BitVec 32 := Scalar.addi c0_i32_151 v154
  v155.toNat
def k0_dev19 (d0 : Dev nD) : Nat :=
  let c0_i32_159 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_154 : BitVec 32 := 16#32
  let v162 : BitVec 32 := Scalar.xori v2 c16_i32_154
  let c1_i32_158 : BitVec 32 := 1#32
  let v163 : BitVec 32 := Scalar.muli v162 c1_i32_158
  let v164 : BitVec 32 := Scalar.addi c0_i32_159 v163
  v164.toNat
def k0_dev20 (d0 : Dev nD) : Nat :=
  let c0_i32_167 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_162 : BitVec 32 := 24#32
  let v171 : BitVec 32 := Scalar.xori v2 c24_i32_162
  let c1_i32_166 : BitVec 32 := 1#32
  let v172 : BitVec 32 := Scalar.muli v171 c1_i32_166
  let v173 : BitVec 32 := Scalar.addi c0_i32_167 v172
  v173.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S32768x512 : Shape := ⟨2, ![32768, 512]⟩
abbrev S_ : Shape := ⟨0, ![]⟩
abbrev S512 : Shape := ⟨1, ![512]⟩
abbrev S1x512 : Shape := ⟨2, ![1, 512]⟩

abbrev nBuf : Space → Nat
  | .hbm => 5
  | .vmem => 0
  | .smem => 0
  | _ => 0

abbrev bufTy : (tb : Table) → Fin (tcTables nBuf tb) → BufTy
  | .hbm, ⟨0, _⟩ => ⟨S32768x512, .bf16⟩
  | .hbm, ⟨1, _⟩ => ⟨S_, .bf16⟩
  | .hbm, ⟨2, _⟩ => ⟨S512, .bf16⟩
  | .hbm, ⟨3, _⟩ => ⟨S1x512, .bf16⟩
  | .hbm, ⟨4, _⟩ => ⟨S1x512, .f32⟩
  | _, _ => ⟨S32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Proof.Mesh.lean ====
/-
# Partners, landing slots and the values held on each device

Thirty-two devices meet in ten exchanges. In exchange `j` device `c` meets the device whose number is `c` with the bits of
`off j` flipped: the offsets 1 … 7 (inside an octet of devices, the first level) and 8, 16, 24 (between octets, the second
level). This file names the partners, the slots of the two landing buffers, and what each device holds.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.Pipeline.ValueKit.Geometry
public import Idealize.ShloMosaic.Lib.ValueIdxCore
public import Idealize.ShloMosaic.Lib.ViewIndex
public import Idealize.ShloMosaic.Lib.Tactic

@[expose] public section

noncomputable section

namespace Cert.ColMax

open Cert.KernelIdeal Cert.KernelIdeal.Gen

open Idealize.ShloMosaic
open Idealize.ShloMosaic.TcCoe
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## Partners -/

/-- The bits flipped in each of the ten exchanges. -/
def off (j : Fin 10) : ℕ := if j.val < 7 then j.val + 1 else 8 * (j.val - 6)

/-- The device that `c` meets in exchange `j`. -/
def peer (c : Dev nD) (j : Fin 10) : Dev nD :=
  ⟨c.val ^^^ off j, Nat.xor_lt_two_pow (n := 5) c.isLt (by revert j; decide)⟩

/-- Meeting is mutual: the partner of the partner is the device itself. -/
theorem peer_peer (c : Dev nD) (j : Fin 10) : peer (peer c j) j = c :=
  Fin.ext (by show (c.val ^^^ off j) ^^^ off j = c.val; rw [Nat.xor_assoc, Nat.xor_self, Nat.xor_zero])

/-- Exchange `j` as a rearrangement of the devices. -/
def swap (j : Fin 10) : Dev nD ≃ Dev nD := ⟨fun c => peer c j, fun c => peer c j, fun c => peer_peer c j, fun c => peer_peer c j⟩

/-- The exchange of slot `i` of the first level. -/
def exA (i : Fin 7) : Fin 10 := ⟨i.val, by omega⟩
/-- The exchange of slot `i` of the second level. -/
def exB (i : Fin 3) : Fin 10 := ⟨7 + i.val, by omega⟩

/-- The slot of an exchange of the first level. -/
def loIx (j : Fin 10) (h : j.val < 7) : Fin 7 := ⟨j.val, h⟩
/-- The slot of an exchange of the second level. -/
def hiIx (j : Fin 10) (h : ¬ j.val < 7) : Fin 3 := ⟨j.val - 7, by omega⟩

/-- The first-level exchange of an exchange's slot is the exchange itself. -/
theorem exA_loIx (j : Fin 10) (h : j.val < 7) : exA (loIx j h) = j := rfl
/-- Likewise on the second level. -/
theorem exB_hiIx (j : Fin 10) (h : ¬ j.val < 7) : exB (hiIx j h) = j := Fin.ext (by show 7 + (j.val - 7) = j.val; omega)
/-- The slot of the exchange of first-level slot `i` is `i`. -/
theorem loIx_exA (i : Fin 7) (h : (exA i).val < 7) : loIx (exA i) h = i := rfl
/-- Likewise on the second level. -/
theorem hiIx_exB (i : Fin 3) (h : ¬ (exB i).val < 7) : hiIx (exB i) h = i := Fin.ext (by show 7 + i.val - 7 = i.val; omega)
/-- The first level's exchanges are numbered below 7; -/
theorem exA_lt (i : Fin 7) : (exA i).val < 7 := i.isLt
/-- the second level's are not. -/
theorem exB_ge (i : Fin 3) : ¬ (exB i).val < 7 := by show ¬ 7 + i.val < 7; omega
/-- Different slots of the first level have different exchanges. -/
theorem exA_inj : Function.Injective exA := fun i k h => Fin.ext (by have := congrArg Fin.val h; exact this)
/-- Different slots of the second level have different exchanges. -/
theorem exB_inj : Function.Injective exB := fun i k h => Fin.ext (by have := congrArg Fin.val h; simp only [exB] at this; omega)

/-! ## A stack of `n` one-row slots -/

section Stack

variable {n : ℕ}

/-- The shape of a landing buffer of `n` slots. -/
abbrev Stk (n : ℕ) : Shape := ⟨3, ![n, 1, 512]⟩

/-- Every slot lies inside its landing buffer. -/
theorem slot_inb (i : Fin n) : ∀ a, (![i.val, 0, 0] : Fin 3 → Nat) a + S1x1x512.size a ≤ (Stk n).size a := by
  intro a; have := i.isLt; fin_cases a <;> simp <;> omega

/-- Slot `i` of a landing buffer, as the kernel addresses it: one row of 512 lanes. -/
abbrev slot (M : Memref sig .tc .vmem (Stk n) .bf16) (i : Fin n) : Memref sig .tc .vmem S1x512 .bf16 :=
  (M.slice (Rect.unit (s := Stk n) ![i.val, 0, 0] S1x1x512.size (slot_inb i)) (fun _ => rfl)).squeeze S1x512 squeezes_S1x1x512_S1x512

/-- The rows `w 0, w 1, …` stacked into one landing buffer. -/
def rows {α : Type} (w : Fin n → S1x512.Idx → α) : (Stk n).Idx → α := fun k => w (k 0) (ix2 (0 : Fin 1) (k 2))

/-- Lane `x` of a row is lane `x` of the slot that the row is squeezed from. -/
theorem squeeze_idx (x : S1x512.Idx) :
    Shape.reshapeEquiv squeezes_S1x1x512_S1x512.numel_eq x = (ix3 (0 : Fin 1) (0 : Fin 1) (x 1) : S1x1x512.Idx) := by
  refine Shape.reshapeEquiv_eq_of_rowMajor _ ?_
  rw [Shape.rowMajor_val_three, Shape.rowMajor_val_two]
  have : (x 0).val = 0 := Nat.lt_one_iff.mp (x 0).isLt
  rw [this]
  rfl

/-- The element of the buffer under lane `x` of slot `i`. -/
theorem slot_emb (M : Memref sig .tc .vmem (Stk n) .bf16) (i : Fin n) (x : S1x512.Idx) :
    (slot M i).view.emb x = M.view.emb (ix3 i (0 : Fin 1) (x 1)) := by
  show M.view.emb ((Rect.unit (s := Stk n) ![i.val, 0, 0] S1x1x512.size (slot_inb i)).emb
      (Shape.reshapeEquiv squeezes_S1x1x512_S1x512.numel_eq x)) = _
  rw [squeeze_idx]
  refine congrArg _ (Shape.idx3_ext ?_ ?_ ?_)
  · exact ValueKit.rect_emb_unit_val _ _ _ _ _
  · exact ValueKit.rect_emb_unit_val _ _ _ _ _
  · exact (ValueKit.rect_emb_unit_val _ _ _ _ _).trans (Nat.zero_add _)

/-- Different slots share no element. -/
theorem slot_disjoint (M : Memref sig .tc .vmem (Stk n) .bf16) (i j : Fin n) (h : i ≠ j) :
    Disjoint (slot M i).view.set (slot M j).view.set := by
  rw [Finset.disjoint_left]
  intro k hi hj
  obtain ⟨x, -, hx⟩ := Finset.mem_map.mp hi
  obtain ⟨y, -, hy⟩ := Finset.mem_map.mp hj
  rw [slot_emb] at hx hy
  have := M.view.emb.injective (hx.trans hy.symm)
  exact h (congrFun this 0)

/-- The slots together make up the landing buffer. -/
theorem slot_cover (M : Memref sig .tc .vmem (Stk n) .bf16) :
    Finset.univ.biUnion (fun i => (slot M i).view.set) = M.view.set := by
  ext k
  simp only [Finset.mem_biUnion, Finset.mem_univ, true_and]
  constructor
  · rintro ⟨i, hi⟩
    obtain ⟨x, -, hx⟩ := Finset.mem_map.mp hi
    rw [← hx, slot_emb]
    exact View.emb_mem_set _ _
  · intro hk
    obtain ⟨y, -, hy⟩ := Finset.mem_map.mp hk
    have h : (slot M (show Fin n from y 0)).view.emb (ix2 (0 : Fin 1) (y 2)) = k := by
      rw [slot_emb, ← hy]
      refine congrArg _ (Shape.idx3_ext rfl ?_ rfl)
      exact (Nat.lt_one_iff.mp (y 1).isLt).symm
    exact ⟨show Fin n from y 0, h ▸ View.emb_mem_set _ _⟩

end Stack

/-! ## The memrefs -/

/-- The input block's buffer, -/
abbrev xM : Memref sig .tc .vmem S1024x512 .bf16 := Memref.whole cc0_stg0_0
/-- and the output row's. -/
abbrev oM : Memref sig .tc .vmem S1x512 .f32 := Memref.whole cc0_stg1_0
/-- The device's own maximum, sent in the first level; -/
abbrev aM : Memref sig .tc .vmem S1x512 .bf16 := Memref.whole cc0_scratch0
/-- its octet's maximum, sent in the second. -/
abbrev bM : Memref sig .tc .vmem S1x512 .bf16 := Memref.whole cc0_scratch1
/-- Where the seven rows of the first level land, -/
abbrev landAM : Memref sig .tc .vmem (Stk 7) .bf16 := Memref.whole cc0_scratch2
/-- and the three of the second. -/
abbrev landBM : Memref sig .tc .vmem (Stk 3) .bf16 := Memref.whole cc0_scratch3

/-! ## What each device holds -/

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- The block of `x` that device `c` stages. -/
def xAt (c : Dev nD) : (cc0_stg0_0 : Ref sig .tc).ty.Contents (Elt F) :=
  (win0_0.blk (0 : Fin 1)).view.read (Elt F) ((s₀ m ρ).mem ((c : Thread nD τ).loc main_arg0))

/-- The column maximum of the device's own block. -/
def accA (c : Dev nD) : (cc0_scratch0 : Ref sig .tc).ty.Contents (Elt F) := k0_pay1 (xAt m ρ c)

/-- What the first level lands on device `c`: its seven partners' maxima, a row each. -/
def gotA (c : Dev nD) : (cc0_scratch2 : Ref sig .tc).ty.Contents (Elt F) := rows fun i : Fin 7 => accA m ρ (peer c (exA i))

/-- The maximum over the octet of `c`. -/
def accB (c : Dev nD) : (cc0_scratch1 : Ref sig .tc).ty.Contents (Elt F) := k0_pay2 (gotA m ρ c) (accA m ρ c)

/-- What the second level lands on device `c`: three partners' octet maxima, a row each. -/
def gotB (c : Dev nD) : (cc0_scratch3 : Ref sig .tc).ty.Contents (Elt F) := rows fun i : Fin 3 => accB m ρ (peer c (exB i))

/-- The kernel's result on device `c`. -/
def outAt (c : Dev nD) : (cc0_stg1_0 : Ref sig .tc).ty.Contents (Elt F) := k0_pay3 (gotB m ρ c) (accB m ρ c)

omit [FloatOps F] in
/-- After the row `w i` is written into slot `i` the slot holds what the stack of the rows `w` holds there. -/
theorem slot_write {n : ℕ} (M : Memref sig .tc .vmem (Stk n) .bf16) (g : M.view.ty.Contents (Elt F)) (w : Fin n → S1x512.Idx → Elt F .bf16)
    (hg : M.view.read (Elt F) g = rows w) (i : Fin n) (fd : M.view.ty.Contents (Elt F)) :
    ∀ k ∈ (slot M i).view.set, (slot M i).view.write (Elt F) fd (w i) Finset.univ k = g k := by
  intro k hk
  obtain ⟨x, -, rfl⟩ := Finset.mem_map.mp hk
  refine View.eq_of_read_eq (v := (slot M i).view) (Val := Elt F) (x := x) ?_
  rw [View.read_write_univ]
  have h1 : (slot M i).view.read (Elt F) g x = M.view.read (Elt F) g (ix3 i (0 : Fin 1) (x 1)) := by
    rw [View.read_apply, View.read_apply, slot_emb]
  rw [h1, hg]
  show w i x = w i (ix2 (0 : Fin 1) (x 1))
  have : x 0 = (0 : Fin 1) := Fin.ext (Nat.lt_one_iff.mp (x 0).isLt)
  exact congrArg (w i) ((eq_ix2 x).trans (congrArg (fun a => ix2 a (x 1)) this))

end Cert.ColMax

end
-- ==== Proof.Sched.lean ====
/-
# Who pays whom: the schedule of the semaphores

Each device has one barrier cell, ten send cells and ten receive cells. All of them run one round.

* The barrier cell of `c` gets one unit from each of its ten partners. The unit of partner `peer c j` brings the slot `j` of
  that partner's landing buffers: `c` will write its row there.
* The receive cell `j` of `c` gets the credit of one row from `peer c j`, and with it the slot `j` holding that partner's row.
* The send cell `j` of `c` gets the same credit when the row has been read, and with it the lent read share of the source.
-/
module

public import proofs.«01_k».proof.Proof.Mesh
public import Idealize.ShloMosaic.Lib.Transfers

@[expose] public section

noncomputable section

namespace Cert.ColMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The pipeline's ghost state beside the rounds', whose duties are named by the exchanges. -/
abbrev UB : Type := URounds (GSem nD τ sig) (Fin 10)
/-- The ghost state: the staging pipeline's rounds beside those of the kernel's own cells. -/
abbrev UU : Type := UR sig nD τ × UB
local notation "𝕄" => MT nD τ sig Unit (Elt F) ℕ UU ℕ

/-- The pipeline's part of the ghost state, -/
abbrev EP : Emb (UR sig nD τ) (MT nD τ sig Unit (Elt F) ℕ UU ℕ) := embL
/-- and the kernel's own. -/
abbrev ER : Emb UB (MT nD τ sig Unit (Elt F) ℕ UU ℕ) := embR

variable (m : (ℓ : Loc nD τ sig) → Buf (Elt F) ℓ) (ρ : Dev nD → PrngReg)

/-! ## The cells -/

/-- The barrier semaphore. -/
abbrev barS : Sem sig := (SemArray.scalar (sig.barrier 0 rfl) : Sems sig S_).sem

/-- The send and the receive semaphore of exchange `j`: numbers 2 … 8 and 9 … 15 at the first level, 16 … 18 and 19 … 21 at
    the second. -/
def sendS (j : Fin 10) : DmaSem sig := (⟨if j.val < 7 then 2 + j.val else 9 + j.val, by split <;> omega⟩ : Fin 22)
/-- The semaphore that exchange `j` counts up when its row arrives. -/
def recvS (j : Fin 10) : DmaSem sig := (⟨if j.val < 7 then 9 + j.val else 12 + j.val, by split <;> omega⟩ : Fin 22)

/-- Device `c`'s barrier cell, -/
abbrev barCell (c : Dev nD) : GSem nD τ sig := ((c : Thread nD τ), .reg barS)
/-- its send cell of exchange `j`, -/
abbrev sendCell (c : Dev nD) (j : Fin 10) : GSem nD τ sig := ((c : Thread nD τ), .dma (sendS j))
/-- and its receive cell of exchange `j`. -/
abbrev recvCell (c : Dev nD) (j : Fin 10) : GSem nD τ sig := ((c : Thread nD τ), .dma (recvS j))

/-- What a semaphore is for. -/
inductive Role where
  | bar
  | send (j : Fin 10)
  | recv (j : Fin 10)
  | idle
  deriving DecidableEq

/-- The role of a transfer semaphore, from its number. -/
def roleDma (n : ℕ) : Role :=
  if h : 2 ≤ n ∧ n < 9 then .send ⟨n - 2, by omega⟩
  else if h : 9 ≤ n ∧ n < 16 then .recv ⟨n - 9, by omega⟩
  else if h : 16 ≤ n ∧ n < 19 then .send ⟨n - 9, by omega⟩
  else if h : 19 ≤ n ∧ n < 22 then .recv ⟨n - 12, by omega⟩
  else .idle

/-- The role of a semaphore. -/
def roleOf : SemLoc sig → Role
  | .reg s => if s = barS then .bar else .idle
  | .dma q => roleDma (show Fin 22 from q).val

/-- The barrier's semaphore has the barrier's role; -/
theorem role_bar : roleOf (.reg barS) = .bar := by decide
/-- a send semaphore has its exchange's send role; -/
theorem role_send (j : Fin 10) : roleOf (.dma (sendS j)) = .send j := by revert j; decide
/-- a receive semaphore has its exchange's receive role. -/
theorem role_recv (j : Fin 10) : roleOf (.dma (recvS j)) = .recv j := by revert j; decide

/-- The role of a cell: those of the tensor cores take part, no others. -/
def cellRole (g : GSem nD τ sig) : Role := if g.1.2 = .tc then roleOf g.2 else .idle

/-- On a tensor core a cell has its semaphore's role. -/
theorem cellRole_tc (c : Dev nD) (sm : SemLoc sig) : cellRole ((c : Thread nD τ), sm) = roleOf sm := if_pos rfl
/-- The role of a barrier cell, -/
theorem cellRole_bar (c : Dev nD) : cellRole (barCell c) = .bar := (cellRole_tc c _).trans role_bar
/-- of a send cell, -/
theorem cellRole_send (c : Dev nD) (j : Fin 10) : cellRole (sendCell c j) = .send j := (cellRole_tc c _).trans (role_send j)
/-- and of a receive cell. -/
theorem cellRole_recv (c : Dev nD) (j : Fin 10) : cellRole (recvCell c j) = .recv j := (cellRole_tc c _).trans (role_recv j)

/-- The credit of one row. -/
abbrev N : ℕ := aM.view.dmaCredit
/-- A row's credit is positive. -/
theorem N_pos : 0 < N := View.dmaCredit_pos _ (by decide)

/-! ## What the signals and the transfers bring -/

/-- The elements under a memref, held with share `q` and contents `f`. -/
abbrev pts (c : Dev nD) {s : Shape} {e : EltTy} (v : Memref sig .tc .vmem s e) (q : PosShare TreeShare) (f : Buf (Elt F) (v.view.loc (c : Thread nD τ))) : sProp 𝕄 :=
  v.view.loc (c : Thread nD τ) ↦[v.view.set]{q} f

/-- Slot `j` of device `c`'s landing buffers, whatever it holds. -/
def slotAny (c : Dev nD) (j : Fin 10) : sProp 𝕄 :=
  if h : j.val < 7 then iprop(∃ f, pts c (slot landAM (loIx j h)) fullShare f)
  else iprop(∃ f, pts c (slot landBM (hiIx j h)) fullShare f)

/-- Slot `j` holding the partner's row. -/
def landPay (c : Dev nD) (j : Fin 10) : sProp 𝕄 :=
  if h : j.val < 7 then pts c (slot landAM (loIx j h)) fullShare (gotA m ρ c)
  else pts c (slot landBM (hiIx j h)) fullShare (gotB m ρ c)

/-- The read share of the source that the transfer `j` borrows. -/
def sendPay (c : Dev nD) (j : Fin 10) : sProp 𝕄 :=
  if j.val < 7 then pts c aM (Transfers.shareTokN fullShare j.val) (accA m ρ c) else pts c bM (Transfers.shareTokN fullShare (j.val - 7)) (accB m ρ c)

/-- The schedule: round 0 only. -/
def plan : Schedule (GSem nD τ sig) (Fin 10) 𝕄 where
  duties g r := if r = 0 then (match cellRole g with | .bar => Finset.univ | .send _ => {0} | .recv _ => {0} | .idle => ∅) else ∅
  unitless _ := False
  amount g _ _ := match cellRole g with | .bar => 1 | _ => N
  payload g _ d := match cellRole g with
    | .bar => slotAny (peer g.1.1 d) d
    | .send j => sendPay m ρ g.1.1 j
    | .recv j => landPay m ρ g.1.1 j
    | .idle => iprop(emp)
  amount_pos g _ _ _ := by
    show 0 < (match cellRole g with | .bar => 1 | _ => N)
    split
    · exact Nat.one_pos
    · exact N_pos

omit [FloatOps F] in
/-- A slot of any contents may be kept in an invariant; -/
instance slotAny_storable (c : Dev nD) (j : Fin 10) : BI.Storable (upEmb : UEmb _ 𝕄) (slotAny (F := F) c j) := by
  unfold slotAny; split <;> infer_instance
/-- so may a slot with the partner's row, -/
instance landPay_storable (c : Dev nD) (j : Fin 10) : BI.Storable (upEmb : UEmb _ 𝕄) (landPay (F := F) m ρ c j) := by
  unfold landPay; split <;> infer_instance
/-- the share lent to a transfer, -/
instance sendPay_storable (c : Dev nD) (j : Fin 10) : BI.Storable (upEmb : UEmb _ 𝕄) (sendPay (F := F) m ρ c j) := by
  unfold sendPay; split <;> infer_instance

/-- and hence every payload of the plan. -/
instance plan_payload_storable (g : GSem nD τ sig) (r : ℕ) (d : Fin 10) : BI.Storable (upEmb : UEmb _ 𝕄) ((plan (F := F) m ρ).payload g r d) := by
  show BI.Storable upEmb (match cellRole g with
    | .bar => slotAny (peer g.1.1 d) d | .send j => sendPay m ρ g.1.1 j | .recv j => landPay m ρ g.1.1 j | .idle => iprop(emp))
  split <;> infer_instance

section Tables
variable (c : Dev nD) (j : Fin 10)

/-- A barrier cell has ten duties, -/
theorem duties_bar : (plan (F := F) m ρ).duties (barCell c) 0 = Finset.univ := by dsimp only [plan]; rw [if_pos rfl, cellRole_bar]
/-- a send cell one, -/
theorem duties_send : (plan (F := F) m ρ).duties (sendCell c j) 0 = {0} := by dsimp only [plan]; rw [if_pos rfl, cellRole_send]
/-- and a receive cell one. -/
theorem duties_recv : (plan (F := F) m ρ).duties (recvCell c j) 0 = {0} := by dsimp only [plan]; rw [if_pos rfl, cellRole_recv]
/-- After the first round there is nothing more to do. -/
theorem duties_later (g : GSem nD τ sig) : ∀ r, 1 ≤ r → (plan (F := F) m ρ).duties g r = ∅ :=
  fun r hr => by dsimp only [plan]; exact if_neg (by omega)

/-- A signal counts one, -/
theorem amount_bar (d : Fin 10) : (plan (F := F) m ρ).amount (barCell c) 0 d = 1 := by dsimp only [plan]; rw [cellRole_bar]
/-- a transfer counts its row where it leaves, -/
theorem amount_send (d : Fin 10) : (plan (F := F) m ρ).amount (sendCell c j) 0 d = N := by dsimp only [plan]; rw [cellRole_send]
/-- and where it arrives. -/
theorem amount_recv (d : Fin 10) : (plan (F := F) m ρ).amount (recvCell c j) 0 d = N := by dsimp only [plan]; rw [cellRole_recv]

/-- A signal brings the slot of the partner that sent it, -/
theorem payload_bar (d : Fin 10) : (plan (F := F) m ρ).payload (barCell c) 0 d = slotAny (peer c d) d := by dsimp only [plan]; rw [cellRole_bar]
/-- the end of a sending brings back the lent share, -/
theorem payload_send (d : Fin 10) : (plan (F := F) m ρ).payload (sendCell c j) 0 d = sendPay m ρ c j := by dsimp only [plan]; rw [cellRole_send]
/-- and an arrival brings the slot with the partner's row. -/
theorem payload_recv (d : Fin 10) : (plan (F := F) m ρ).payload (recvCell c j) 0 d = landPay m ρ c j := by dsimp only [plan]; rw [cellRole_recv]

/-- A cell with one duty waits, in its first round, for that duty's amount. -/
theorem expect_single {g : GSem nD τ sig} (h : (plan (F := F) m ρ).duties g 0 = {0}) :
    (plan (F := F) m ρ).expect g 0 = (plan (F := F) m ρ).amount g 0 0 := by
  simp only [Schedule.expect, Schedule.amountOf, h, Finset.sum_singleton]
/-- A cell with one duty gives its owner, in its first round, that duty's payload. -/
theorem rest_single {g : GSem nD τ sig} (h : (plan (F := F) m ρ).duties g 0 = {0}) :
    bigSep ((plan (F := F) m ρ).duties g 0 \ ∅) (fun d => (plan (F := F) m ρ).payload g 0 d) = (plan (F := F) m ρ).payload g 0 0 := by
  rw [h]; exact (congrArg (bigSep · _) Finset.sdiff_empty).trans bigSep_singleton

/-- The barrier waits for ten units, one from each partner. -/
theorem expect_bar : (plan (F := F) m ρ).expect (barCell c) 0 = 10 := by
  simp [Schedule.expect, Schedule.amountOf, duties_bar, amount_bar]
/-- A send cell waits for one row. -/
theorem expect_send : (plan (F := F) m ρ).expect (sendCell c j) 0 = N := (expect_single m ρ (duties_send m ρ c j)).trans (amount_send m ρ c j 0)
/-- A receive cell waits for one row. -/
theorem expect_recv : (plan (F := F) m ρ).expect (recvCell c j) 0 = N := (expect_single m ρ (duties_recv m ρ c j)).trans (amount_recv m ρ c j 0)

/-- All the barrier's ten payloads: the ten partners' slots. -/
theorem rest_bar : bigSep ((plan (F := F) m ρ).duties (barCell c) 0 \ ∅) (fun d => (plan (F := F) m ρ).payload (barCell c) 0 d)
    = bigSep Finset.univ fun d : Fin 10 => slotAny (F := F) (peer c d) d := by
  rw [Finset.sdiff_empty, duties_bar]; exact bigSep_congr fun d _ => payload_bar m ρ c d
/-- A send cell gives back the share of the row that was sent. -/
theorem rest_send : bigSep ((plan (F := F) m ρ).duties (sendCell c j) 0 \ ∅) (fun d => (plan (F := F) m ρ).payload (sendCell c j) 0 d) = sendPay m ρ c j :=
  (rest_single m ρ (duties_send m ρ c j)).trans (payload_send m ρ c j 0)
/-- A receive cell gives the slot with the partner's row in it. -/
theorem rest_recv : bigSep ((plan (F := F) m ρ).duties (recvCell c j) 0 \ ∅) (fun d => (plan (F := F) m ρ).payload (recvCell c j) 0 d) = landPay m ρ c j :=
  (rest_single m ρ (duties_recv m ρ c j)).trans (payload_recv m ρ c j 0)

end Tables

/-! ## Stretches of the ten exchanges -/

/-- The exchanges from `a` up to but not including `b`. -/
def span (a b : ℕ) : Finset (Fin 10) := Finset.univ.filter fun j => a ≤ j.val ∧ j.val < b

/-- The exchanges of a stretch are those between its bounds. -/
theorem mem_span {a b : ℕ} {j : Fin 10} : j ∈ span a b ↔ a ≤ j.val ∧ j.val < b := by simp [span]
/-- A stretch from `a` to `a` is empty. -/
theorem span_self (a : ℕ) : span a a = ∅ := by ext j; simp only [mem_span, Finset.notMem_empty, iff_false]; omega
/-- The stretch from 0 to 10 is every exchange. -/
theorem span_all : span 0 10 = Finset.univ := by ext j; simp only [mem_span, Finset.mem_univ, iff_true]; omega
/-- A stretch is its first exchange and the others. -/
theorem span_first (j : Fin 10) (b : ℕ) (h : j.val < b) : span j.val b = insert j (span (j.val + 1) b) := by
  ext i; simp only [mem_span, Finset.mem_insert, Fin.ext_iff]; omega
/-- A stretch is its last exchange and the others. -/
theorem span_last (a : ℕ) (j : Fin 10) (h : a ≤ j.val) : span a (j.val + 1) = insert j (span a j.val) := by
  ext i; simp only [mem_span, Finset.mem_insert, Fin.ext_iff]; omega
/-- A stretch is its part before `k` and its part from `k` on, -/
theorem span_split (a k b : ℕ) (h₁ : a ≤ k) (h₂ : k ≤ b) : span a b = span a k ∪ span k b := by
  ext i; simp only [mem_span, Finset.mem_union]; omega
/-- and these two share no exchange. -/
theorem span_disjoint (a k b : ℕ) : Disjoint (span a k) (span k b) := by
  rw [Finset.disjoint_left]; intro i; simp only [mem_span]; omega

/-- `P` for every exchange of the stretch. -/
def seg (P : Fin 10 → sProp 𝕄) (a b : ℕ) : sProp 𝕄 := bigSep (span a b) P

omit [FloatOps F] in
/-- Over the empty stretch there is nothing. -/
theorem seg_self (P : Fin 10 → sProp 𝕄) (a : ℕ) : seg P a a = iprop(emp) := by unfold seg; rw [span_self]; exact bigSep_empty
omit [FloatOps F] in
/-- Over the whole stretch there is every exchange's resource. -/
theorem seg_all (P : Fin 10 → sProp 𝕄) : seg P 0 10 = bigSep Finset.univ P := by unfold seg; rw [span_all]
omit [FloatOps F] in
/-- The first exchange's resource can be taken off a stretch, -/
theorem seg_first (P : Fin 10 → sProp 𝕄) (j : Fin 10) (b : ℕ) (h : j.val < b) : seg P j.val b = iprop(P j ∗ seg P (j.val + 1) b) := by
  unfold seg; rw [span_first j b h]; exact bigSep_insert (by simp only [mem_span]; omega)
omit [FloatOps F] in
/-- and so can the last one's. -/
theorem seg_last (P : Fin 10 → sProp 𝕄) (a : ℕ) (j : Fin 10) (h : a ≤ j.val) : seg P a (j.val + 1) = iprop(P j ∗ seg P a j.val) := by
  unfold seg; rw [span_last a j h]; exact bigSep_insert (by simp only [mem_span]; omega)
omit [FloatOps F] in
/-- A stretch's resources can be parted at any exchange `k`. -/
theorem seg_split (P : Fin 10 → sProp 𝕄) (a k b : ℕ) (h₁ : a ≤ k) (h₂ : k ≤ b) : seg P a b = iprop(seg P a k ∗ seg P k b) := by
  unfold seg; rw [span_split a k b h₁ h₂]; exact bigSep_union (span_disjoint a k b)
omit [FloatOps F] in
/-- A stretch of pairs is a pair of stretches. -/
theorem seg_sep (P Q : Fin 10 → sProp 𝕄) (a b : ℕ) : seg (fun j => iprop(P j ∗ Q j)) a b = iprop(seg P a b ∗ seg Q a b) := by
  unfold seg; exact bigSep_sep' _ _ _

/-- The first level's exchanges are its seven slots, -/
theorem span_A : span 0 7 = Finset.univ.map ⟨exA, exA_inj⟩ := by decide
/-- the second's its three. -/
theorem span_B : span 7 10 = Finset.univ.map ⟨exB, exB_inj⟩ := by decide
omit [FloatOps F] in
/-- The stretch of the first level, slot by slot, -/
theorem seg_A (P : Fin 10 → sProp 𝕄) : seg P 0 7 = bigSep Finset.univ fun i : Fin 7 => P (exA i) := by
  unfold seg; rw [span_A]; exact bigSep_map _
omit [FloatOps F] in
/-- and that of the second. -/
theorem seg_B (P : Fin 10 → sProp 𝕄) : seg P 7 10 = bigSep Finset.univ fun i : Fin 3 => P (exB i) := by
  unfold seg; rw [span_B]; exact bigSep_map _

/-! ## What each device owes -/

/-- The barrier units that `c` still owes when its first `n` signals are done, -/
def owedB (c : Dev nD) (n : ℕ) : CellTallies nD τ sig Unit := ∑ j ∈ span n 10, tallyAt (barCell (peer c j)) () 1
/-- and the row credits it still owes when its first `n` transfers are under way. -/
def owedR (c : Dev nD) (n : ℕ) : CellTallies nD τ sig Unit := ∑ j ∈ span n 10, tallyAt (recvCell (peer c j) j) () N
/-- What a device owes at the start: all its signals and all its rows. -/
def O₀ (c : Dev nD) : CellTallies nD τ sig Unit := owedR c 0 + owedB c 0

/-- What is owed in signals from `j` on: signal `j`, and those after it. -/
theorem owedB_step (c : Dev nD) (j : Fin 10) : owedB c j.val = owedB c (j.val + 1) + tallyAt (barCell (peer c j)) () 1 := by
  unfold owedB; rw [span_first j 10 j.isLt, Finset.sum_insert (by simp only [mem_span]; omega), add_comm]
/-- What is owed in rows from `j` on: row `j`, and those after it. -/
theorem owedR_step (c : Dev nD) (j : Fin 10) : owedR c j.val = owedR c (j.val + 1) + tallyAt (recvCell (peer c j) j) () N := by
  unfold owedR; rw [span_first j 10 j.isLt, Finset.sum_insert (by simp only [mem_span]; omega), add_comm]
/-- After ten signals none is owed. -/
theorem owedB_done (c : Dev nD) : owedB c 10 = 0 := by unfold owedB; rw [span_self]; rfl
/-- After ten rows none is owed. -/
theorem owedR_done (c : Dev nD) : owedR c 10 = 0 := by unfold owedR; rw [span_self]; rfl

/-- When a sum of tallies is positive at a cell, one of them is. -/
theorem sum_tally_pos {ι : Type} [DecidableEq ι] (S : Finset ι) (f : ι → CellTallies nD τ sig Unit) (g : GSem nD τ sig) (u : Unit) (h : 0 < (∑ j ∈ S, f j) g u) :
    ∃ j ∈ S, 0 < f j g u := by
  induction S using Finset.induction_on with
  | empty => exact absurd h (Nat.lt_irrefl 0)
  | insert a S ha ih =>
    rw [Finset.sum_insert ha, Pi.add_apply, Finsupp.add_apply] at h
    by_cases h' : 0 < f a g u
    · exact ⟨a, Finset.mem_insert_self _ _, h'⟩
    · obtain ⟨j, hj, hp⟩ := ih (by omega)
      exact ⟨j, Finset.mem_insert_of_mem hj, hp⟩

/-- Signals are owed to partners' barriers alone. -/
theorem owedB_pos {c : Dev nD} {n : ℕ} {g : GSem nD τ sig} {u : Unit} (h : 0 < owedB c n g u) : ∃ j, g = barCell (peer c j) := by
  obtain ⟨j, -, hj⟩ := sum_tally_pos _ _ g u h
  rw [tallyAt_apply] at hj
  exact ⟨j, by by_contra hn; rw [if_neg (fun h => hn h.1)] at hj; exact Nat.lt_irrefl 0 hj⟩
/-- Rows from `n` on are owed to partners' receive cells from `n` on alone. -/
theorem owedR_pos {c : Dev nD} {n : ℕ} {g : GSem nD τ sig} {u : Unit} (h : 0 < owedR c n g u) : ∃ j : Fin 10, n ≤ j.val ∧ g = recvCell (peer c j) j := by
  obtain ⟨j, hm, hj⟩ := sum_tally_pos _ _ g u h
  rw [tallyAt_apply] at hj
  exact ⟨j, (mem_span.mp hm).1, by by_contra hn; rw [if_neg (fun h => hn h.1)] at hj; exact Nat.lt_irrefl 0 hj⟩
/-- What a device owes at the start, it owes to partners' barriers and receive cells. -/
theorem O₀_pos {c : Dev nD} {g : GSem nD τ sig} {u : Unit} (h : 0 < O₀ c g u) :
    (∃ j, g = barCell (peer c j)) ∨ ∃ j : Fin 10, g = recvCell (peer c j) j := by
  unfold O₀ at h
  rw [Pi.add_apply, Finsupp.add_apply] at h
  by_cases h' : 0 < owedB c 0 g u
  · exact .inl (owedB_pos h')
  · obtain ⟨j, -, hj⟩ := owedR_pos (c := c) (n := 0) (g := g) (u := u) (by omega)
    exact .inr ⟨j, hj⟩

/-! ## The order of the waits -/

/-- The cells with a level are those of the tensor cores. -/
def L (g : GSem nD τ sig) : Finset Unit := if g.1.2 = .tc then {()} else ∅
/-- A barrier cell comes before the receive cells of the first level, those before the second level's. -/
def lv (g : GSem nD τ sig) (_ : Unit) : ℕ := match roleOf g.2 with
  | .bar => 1
  | .recv j => if j.val < 7 then 2 else 3
  | _ => 0

/-- A tensor core's cell has the one level index, -/
theorem L_tc (c : Dev nD) (sm : SemLoc sig) : L ((c : Thread nD τ), sm) = {()} := if_pos rfl
/-- so every index is among them. -/
theorem L_mem (c : Dev nD) (sm : SemLoc sig) (u : Unit) : u ∈ L ((c : Thread nD τ), sm) := by rw [L_tc]; exact Finset.mem_singleton_self _
/-- The level of a barrier cell, -/
theorem lv_bar (c : Dev nD) (u : Unit) : lv (barCell c) u = 1 := by dsimp only [lv]; rw [role_bar]
/-- and of a receive cell, by its exchange. -/
theorem lv_recv (c : Dev nD) (j : Fin 10) (u : Unit) : lv (recvCell c j) u = if j.val < 7 then 2 else 3 := by dsimp only [lv]; rw [role_recv]

omit [FloatOps F] in
/-- A wait at level at most `b` is allowed while everything owed is above `b`. -/
theorem mayWait_of (c : Dev nD) (sm : SemLoc sig) (b : ℕ) (O : CellTallies nD τ sig Unit) (hb : lv ((c : Thread nD τ), sm) () ≤ b)
    (hO : ∀ g u, 0 < O g u → (∃ d sm', g = (((d : Dev nD) : Thread nD τ), sm')) ∧ b < lv g u) :
    (levAts L lv : sProp 𝕄) ⊢ MayWait (c : Thread nD τ) sm () O :=
  MayOwe.of_cut (L := L) (lev := lv) b (fun p hp => by rw [Finset.mem_singleton.mp hp]; exact L_mem c sm ())
    (fun g u hg => by obtain ⟨⟨d, sm', rfl⟩, -⟩ := hO g u hg; exact L_mem d sm' u)
    (fun p hp => by rw [Finset.mem_singleton.mp hp]; exact hb)
    (fun g u hg => (hO g u hg).2)

omit [FloatOps F] in
/-- At its barrier wait a device owes row credits only. -/
theorem mayWait_bar (c : Dev nD) : (levAts L lv : sProp 𝕄) ⊢ MayWait (c : Thread nD τ) (.reg barS) () (owedR c 0) :=
  mayWait_of c _ 1 _ (lv_bar c ()).le fun g u hg => by
    obtain ⟨j, -, rfl⟩ := owedR_pos hg
    refine ⟨⟨_, _, rfl⟩, ?_⟩
    rw [lv_recv]; split <;> decide

omit [FloatOps F] in
/-- Waiting for the first level's rows, a device owes the second level's credits only. -/
theorem mayWait_recv (c : Dev nD) (j : Fin 10) (hj : j.val < 7) : (levAts L lv : sProp 𝕄) ⊢ MayWait (c : Thread nD τ) (.dma (recvS j)) () (owedR c 7) :=
  mayWait_of c _ 2 _ (by rw [lv_recv, if_pos hj]) fun g u hg => by
    obtain ⟨i, hi, rfl⟩ := owedR_pos hg
    refine ⟨⟨_, _, rfl⟩, ?_⟩
    rw [lv_recv, if_neg (by omega)]; decide

omit [FloatOps F] in
/-- The staging transfers come before everything. -/
theorem mayWait_stage (c : Dev nD) (q : DmaSem sig) (hq : roleOf (.dma q) = .idle) (O : CellTallies nD τ sig Unit) (hO : O = O₀ c ∨ O = 0) :
    (levAts L lv : sProp 𝕄) ⊢ MayWait (c : Thread nD τ) (.dma q) () O := by
  rcases hO with rfl | rfl
  · refine mayWait_of c _ 0 _ (by show (match roleOf (.dma q) with | .bar => 1 | .recv j => if j.val < 7 then 2 else 3 | _ => 0) ≤ 0; rw [hq]) fun g u hg => ?_
    rcases O₀_pos hg with ⟨j, rfl⟩ | ⟨j, rfl⟩
    · exact ⟨⟨_, _, rfl⟩, by rw [lv_bar]; decide⟩
    · exact ⟨⟨_, _, rfl⟩, by rw [lv_recv]; split <;> decide⟩
  · rw [MayWait_zero]; iintro -; iempintro

end Cert.ColMax

end
-- ==== Proof.Steps.lean ====
/-
# One step of the kernel at a time

Every effect of the body is one of five kinds: a barrier signal, the barrier wait, a row's transfer, the wait for a row's
arrival, the wait for the end of a transfer. Each kind has one lemma here, for every device and every exchange. What a phase
holds is written as two stretches of the ten exchanges, those still to do and those done.
-/
module

public import proofs.«01_k».proof.Proof.Sched

@[expose] public section

noncomputable section

namespace Cert.ColMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The kernel has no loop whose variant needs stating. -/
abbrev 𝒱₀ : Variants := Variants.none

/-! ## What every device knows of every cell -/

/-- The twenty-one cells of a device: barrier, ten send, ten receive. -/
abbrev Kx : Type := Unit ⊕ (Fin 10 ⊕ Fin 10)
/-- The semaphore of a cell, -/
def csem : Kx → SemLoc sig
  | .inl _ => .reg barS
  | .inr (.inl j) => .dma (sendS j)
  | .inr (.inr j) => .dma (recvS j)
/-- and the cell on its device. -/
abbrev kcell (x : Dev nD × Kx) : GSem nD τ sig := ((x.1 : Thread nD τ), csem x.2)

/-- The invariant of every cell, and that its round 0 is reached. -/
def records (K : Dev nD × Kx → ℕ) : sProp 𝕄 :=
  bigSep Finset.univ fun x => iprop(cellInv ER (plan (F := F) m ρ) (K x) (kcell x) ∗ reached ER (kcell x) 0)

/-- These facts may be used again and again. -/
instance records_persistent (K : Dev nD × Kx → ℕ) : BI.Persistent (records (F := F) m ρ K) := by unfold records; infer_instance

variable (K : Dev nD × Kx → ℕ) (c : Dev nD)

/-- The facts of one cell. -/
theorem records_at (x : Dev nD × Kx) :
    records m ρ K ⊢ iprop(cellInv ER (plan (F := F) m ρ) (K x) (kcell x) ∗ reached ER (kcell x) 0) := by
  unfold records; exact bigSep_elim (Finset.mem_univ x)

/-- `c` owes `O`, with whatever waits behind it. -/
def debt (O : CellTallies nD τ sig Unit) : sProp 𝕄 := iprop(∃ W, owes (c : Thread nD τ) O W)

/-- The weakest precondition of the body's programs on device `c`. -/
abbrev WP {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## Barrier signals -/

/-- What `c` gives away in signal `j`: the duty at its partner's barrier and its own slot. -/
def sigRes (j : Fin 10) : sProp 𝕄 := iprop(dutyTok ER (barCell (peer c j)) 0 j ∗ slotAny (F := F) c j)
/-- Before signal `n`. -/
def SigSt (n : ℕ) : sProp 𝕄 := iprop(seg (sigRes (F := F) c) n 10 ∗ debt (F := F) c (owedR c 0 + owedB c n))

/-- Signal `j` goes to the partner of exchange `j` and gives it the slot where it will write. -/
theorem signal_step (j : Fin 10) {dst : Thread nD τ} {sem : Sem sig} {k' : ℕ} {α : Type} {Q : α → sProp 𝕄} {k : PUnit → Prog (TpuEff nD τ sig (Elt F) Λ₀ .tc) α}
    (hd : dst = (peer c j : Thread nD τ)) (hs : sem = barS) (hk : k' = 1) :
    iprop(records m ρ K ∗ SigSt (F := F) c j.val) ⊢ iprop((SigSt (F := F) c (j.val + 1) -∗ WP c (k ⟨⟩) Q) -∗ WP c (.op (.semSignal dst sem k') k) Q) := by
  subst hd hs hk
  unfold SigSt debt
  rw [seg_first _ j 10 j.isLt]
  unfold sigRes
  iintro ⟨#HR, ⟨⟨Htok, Hslot⟩, Hrest⟩, ⟨%W, HO⟩⟩ Hk
  ihave Hc := (records_at m ρ K (peer c j, .inl ())) $$ HR
  icases Hc with ⟨#Hi, #Hr⟩
  have hd : j ∈ (plan (F := F) m ρ).duties (barCell (peer c j)) 0 := by rw [duties_bar]; exact Finset.mem_univ _
  have hO : owedR c 0 + owedB c j.val = (owedR c 0 + owedB c (j.val + 1)) + tallyAt (barCell (peer c j)) () 1 := by rw [owedB_step, add_assoc]
  iapply (Rounds.wp_signal 𝒱₀ ER (plan m ρ) (c : Thread nD τ) none (dst := (peer c j : Thread nD τ)) (κ := K (peer c j, .inl ()))
      (d := j) hd (amount_bar m ρ (peer c j) j) () (O₀ := owedR c 0 + owedB c j.val) (owedR c 0 + owedB c (j.val + 1)) hO
      (Topo.routes_tc _ _)) $$ [HO Htok Hslot]
  · isplitr; · iexact Hi
    isplitl [HO]; · iexact HO
    isplitl [Htok]; · iexact Htok
    isplitl [Hslot]
    · rw [payload_bar, peer_peer]; iexact Hslot
    iexact Hr
  iintro HO
  iapply Hk
  isplitl [Hrest]; · iexact Hrest
  iexists W; iexact HO

/-! ## The barrier wait -/

/-- When all ten partners have signalled, `c` holds a slot of each. -/
theorem barrier_step {sem : Sem sig} {k' : ℕ} {α : Type} {Q : α → sProp 𝕄} {k : PUnit → Prog (TpuEff nD τ sig (Elt F) Λ₀ .tc) α} (hs : sem = barS) (hk : k' = 10) :
    iprop(records m ρ K ∗ levAts L lv ∗ cred (tallyAt (barCell c) () 10) ∗ atPos ER (barCell c) 0 ∅ 0 ∗ debt (F := F) c (owedR c 0))
      ⊢ iprop(((atPos ER (barCell c) 1 ∅ 0 ∗ debt (F := F) c (owedR c 0) ∗ bigSep Finset.univ fun d : Fin 10 => slotAny (F := F) (peer c d) d) -∗ WP c (k ⟨⟩) Q)
          -∗ WP c (.op (.semWait sem k') k) Q) := by
  subst hs hk
  unfold debt
  iintro ⟨#HR, #Hlev, Hc, Hat, ⟨%W, HO⟩⟩ Hk
  ihave Hrec := (records_at m ρ K (c, .inl ())) $$ HR
  icases Hrec with ⟨#Hi, -⟩
  iapply (Rounds.wp_wait_rest_token 𝒱₀ ER (plan m ρ) (c : Thread nD τ) none (κ := K (c, .inl ()))
      (wpE_semWait_eq 𝒱₀ (c : Thread nD τ) none Set.univ) (Set.mem_univ _) () (O := owedR c 0) (W := W) (R := 0) (m := 0) (T := ∅)
      ((Nat.zero_add 10).trans (expect_bar m ρ c).symm)) $$ [Hc HO Hat]
  · isplitr; · iexact Hi
    isplitl [Hc]; · iexact Hc
    isplitl [HO]; · iexact HO
    isplitr; · iapply (mayWait_bar c); iexact Hlev
    iexact Hat
  iintro ⟨HO, Hat, -, Hpay⟩
  ihave Hp := (Entails.of_eq (rest_bar m ρ c)) $$ Hpay
  iapply Hk
  isplitl [Hat]; · iexact Hat
  isplitl [HO]; · iexists _; iexact HO
  iexact Hp

/-! ## The payloads by level -/

/-- A row for a first-level slot has the one credit, -/
theorem credA (i : Fin 7) : (slot landAM i).view.dmaCredit = N := rfl
/-- so has a row for a second-level slot, -/
theorem credB (i : Fin 3) : (slot landBM i).view.dmaCredit = N := rfl
/-- and the row the second level sends. -/
theorem credb : bM.view.dmaCredit = N := rfl

omit [FloatOps F] in
/-- A first-level slot of any contents, at its slot number; -/
theorem slotAny_lo (d : Dev nD) (i : Fin 7) : slotAny (F := F) d (exA i) = iprop(∃ f, pts d (slot landAM i) fullShare f) := by
  unfold slotAny; rw [dif_pos (exA_lt i), loIx_exA]
omit [FloatOps F] in
/-- a second-level one. -/
theorem slotAny_hi (d : Dev nD) (i : Fin 3) : slotAny (F := F) d (exB i) = iprop(∃ f, pts d (slot landBM i) fullShare f) := by
  unfold slotAny; rw [dif_neg (exB_ge i), hiIx_exB]
/-- A first-level slot with the partner's row, at its slot number; -/
theorem landPay_lo (d : Dev nD) (i : Fin 7) : landPay m ρ d (exA i) = pts d (slot landAM i) fullShare (gotA m ρ d) := by
  unfold landPay; rw [dif_pos (exA_lt i), loIx_exA]
/-- a second-level one. -/
theorem landPay_hi (d : Dev nD) (i : Fin 3) : landPay m ρ d (exB i) = pts d (slot landBM i) fullShare (gotB m ρ d) := by
  unfold landPay; rw [dif_neg (exB_ge i), hiIx_exB]
/-- The share lent to a first-level transfer, at its slot number; -/
theorem sendPay_lo (d : Dev nD) (i : Fin 7) : sendPay m ρ d (exA i) = pts d aM (Transfers.shareTokN fullShare i.val) (accA m ρ d) := by
  unfold sendPay; exact if_pos (exA_lt i)
/-- to a second-level one. -/
theorem sendPay_hi (d : Dev nD) (i : Fin 3) : sendPay m ρ d (exB i) = pts d bM (Transfers.shareTokN fullShare i.val) (accB m ρ d) := by
  unfold sendPay; rw [if_neg (exB_ge i), show (exB i).val - 7 = i.val from Nat.add_sub_cancel_left 7 i.val]

omit [FloatOps F] in
/-- Writing the right row into slot `i` makes it hold what the stack of the rows holds there. -/
theorem landed {n : ℕ} (M : Memref sig .tc .vmem (Stk n) .bf16) (d : Dev nD) (g : M.view.ty.Contents (Elt F)) (w : Fin n → S1x512.Idx → Elt F .bf16)
    (hg : M.view.read (Elt F) g = rows w) (i : Fin n) (row : S1x512.Idx → Elt F .bf16) (hrow : row = w i)
    (fd : Buf (Elt F) ((slot M i).view.loc (d : Thread nD τ))) :
    (pts d (slot M i) fullShare ((slot M i).view.write (Elt F) fd row Finset.univ) : sProp 𝕄) ⊢ pts d (slot M i) fullShare g := by
  subst hrow
  exact Entails.of_eq (pointsTo_congr (slot_write M g w hg i fd))

/-- Reading the whole of the first level's row gives the row; -/
theorem read_accA : aM.view.read (Elt F) (accA m ρ c) = accA m ρ c := View.read_whole _ _
/-- likewise the second level's row, -/
theorem read_accB : bM.view.read (Elt F) (accB m ρ c) = accB m ρ c := View.read_whole _ _
/-- the first level's landing buffer, -/
theorem read_gotA : landAM.view.read (Elt F) (gotA m ρ c) = gotA m ρ c := View.read_whole _ _
/-- and the second level's. -/
theorem read_gotB : landBM.view.read (Elt F) (gotB m ρ c) = gotB m ρ c := View.read_whole _ _

/-- The device's row, landed in slot `i` of its first-level partner, is what the schedule promises there. -/
theorem landedA (i : Fin 7) (fd : Buf (Elt F) ((slot landAM i).view.loc (peer c (exA i) : Thread nD τ))) :
    pts (peer c (exA i)) (slot landAM i) fullShare ((slot landAM i).view.write (Elt F) fd (aM.view.read (Elt F) (accA m ρ c)) Finset.univ)
      ⊢ landPay m ρ (peer c (exA i)) (exA i) := by
  rw [landPay_lo, read_accA]
  exact landed landAM _ _ (fun i' => accA m ρ (peer (peer c (exA i)) (exA i'))) (read_gotA m ρ _) i _ (congrArg (accA m ρ) (peer_peer c (exA i)).symm) fd
/-- The same in the second level. -/
theorem landedB (i : Fin 3) (fd : Buf (Elt F) ((slot landBM i).view.loc (peer c (exB i) : Thread nD τ))) :
    pts (peer c (exB i)) (slot landBM i) fullShare ((slot landBM i).view.write (Elt F) fd (bM.view.read (Elt F) (accB m ρ c)) Finset.univ)
      ⊢ landPay m ρ (peer c (exB i)) (exB i) := by
  rw [landPay_hi, read_accB]
  exact landed landBM _ _ (fun i' => accB m ρ (peer (peer c (exB i)) (exB i'))) (read_gotB m ρ _) i _ (congrArg (accB m ρ) (peer_peer c (exB i)).symm) fd

/-! ## A row's transfer -/

/-- A transfer of exchange `j`, from any source and into any slot that the schedule's payloads speak of. -/
theorem xfer_step (j : Fin 10) (n : Dev nD) (hn : n = peer c j) {src dst : Memref sig .tc .vmem S1x512 .bf16} {s r : DmaSem sig}
    (hs : s = sendS j) (hr : r = recvS j) {hsc : (dst : Memref sig (Dev.tc n : Thread nD τ).2.kind .vmem S1x512 .bf16).view.ref.isScScratch = false}
    {hsrc : src.view.WordExact} {hdst : dst.view.WordExact}
    {hsem : DmaTarget.Typed .vmem (.dma r) (.remote (Dev.tc n : Thread nD τ) (dst : Memref sig .tc .vmem S1x512 .bf16) (.dma s) hsc)}
    {α : Type} {Q : α → sProp 𝕄} {k : PUnit → Prog (TpuEff nD τ sig (Elt F) Λ₀ .tc) α} {q : PosShare TreeShare} {fs : Buf (Elt F) (src.view.loc (c : Thread nD τ))}
    (hcr : dst.view.dmaCredit = N) (hsend : pts c src q fs ⊢ sendPay m ρ c j)
    (hland : ∀ fd : Buf (Elt F) (dst.view.loc (peer c j : Thread nD τ)),
      pts (peer c j) dst fullShare (dst.view.write (Elt F) fd (src.view.read (Elt F) fs) Finset.univ) ⊢ landPay m ρ (peer c j) j)
    {O : CellTallies nD τ sig Unit} (O' : CellTallies nD τ sig Unit) (hO : O = O' + tallyAt (recvCell (peer c j) j) () N) :
    iprop(records m ρ K ∗ pts c src q fs ∗ (∃ fd, pts (peer c j) dst fullShare fd) ∗ debt (F := F) c O
        ∗ dutyTok ER (sendCell c j) 0 0 ∗ dutyTok ER (recvCell (peer c j) j) 0 0)
      ⊢ iprop(((cred (tallyAt (sendCell c j) () N) ∗ debt (F := F) c O') -∗ WP c (k ⟨⟩) Q)
          -∗ WP c (.op (.enqueueDma src (.remote (Dev.tc n : Thread nD τ) dst (.dma s) hsc) (.dma r) hsrc hdst hsem) k) Q) := by
  subst hn hs hr
  unfold debt
  iintro ⟨#HR, Hs, ⟨%fd, Hd⟩, ⟨%W, HO⟩, Ht₁, Ht₂⟩ Hk
  ihave Hc₁ := (records_at m ρ K (c, .inr (.inl j))) $$ HR
  icases Hc₁ with ⟨#Hi₁, #Hr₁⟩
  ihave Hc₂ := (records_at m ρ K (peer c j, .inr (.inr j))) $$ HR
  icases Hc₂ with ⟨#Hi₂, #Hr₂⟩
  have hd₁ : (0 : Fin 10) ∈ (plan (F := F) m ρ).duties (sendCell c j) 0 := by rw [duties_send]; exact Finset.mem_singleton_self _
  have hd₂ : (0 : Fin 10) ∈ (plan (F := F) m ρ).duties (recvCell (peer c j) j) 0 := by rw [duties_recv]; exact Finset.mem_singleton_self _
  have hp₁ : pts c src q fs ⊢ (plan (F := F) m ρ).payload (sendCell c j) 0 0 := by rw [payload_send]; exact hsend
  have hp₂ : pts (peer c j) dst fullShare (dst.view.write (Elt F) fd (src.view.read (Elt F) fs) Finset.univ)
      ⊢ (plan (F := F) m ρ).payload (recvCell (peer c j) j) 0 0 := by rw [payload_recv]; exact hland fd
  iapply (Rounds.wp_send_pointsTo 𝒱₀ ER (plan m ρ) (c : Thread nD τ) none (κ₁ := K (c, .inr (.inl j))) (κ₂ := K (peer c j, .inr (.inr j)))
    (r₁ := 0) (r₂ := 0) (d₁ := 0) (d₂ := 0) (sS := .dma (sendS j)) (sem := .dma (recvS j)) (fs := fs) (fd := fd)
    hd₁ hd₂ () () N hcr (amount_send m ρ c j 0) (amount_recv m ρ (peer c j) j 0) O' hO (W := W) hp₁ hp₂
    (Topo.routes_tc _ _)) $$ [Hs Hd HO Ht₁ Ht₂]
  · isplitr; · iexact Hi₁
    isplitr; · iexact Hi₂
    isplitl [Hs]; · iexact Hs
    isplitl [Hd]; · iexact Hd
    isplitl [HO]; · iexact HO
    isplitl [Ht₁]; · iexact Ht₁
    isplitr; · iexact Hr₁
    isplitl [Ht₂]; · iexact Ht₂
    iexact Hr₂
  iintro ⟨Hc, HO⟩
  iapply Hk
  isplitl [Hc]; · iexact Hc
  iexists W; iexact HO

/-- What `c` spends in transfer `j`: two duties, its partner's slot and a read share of the source. -/
def sendRes (j : Fin 10) : sProp 𝕄 :=
  iprop(dutyTok ER (sendCell c j) 0 0 ∗ dutyTok ER (recvCell (peer c j) j) 0 0 ∗ slotAny (F := F) (peer c j) j ∗ sendPay m ρ c j)
/-- What it gets: the token to wait for the transfer's end. -/
def sentRes (j : Fin 10) : sProp 𝕄 := cred (tallyAt (sendCell c j) () N)
/-- Transfers `a` … `n - 1` under way, `n` … `b - 1` to come. -/
def SendSt (a n b : ℕ) : sProp 𝕄 := iprop(seg (sendRes m ρ c) n b ∗ seg (sentRes (F := F) c) a n ∗ debt (F := F) c (owedR c n))

/-- A transfer of the first level: the device's own maximum into slot `i` of its partner. -/
theorem sendA_step (i : Fin 7) (n : Dev nD) (hn : n = peer c (exA i)) {dst : Memref sig .tc .vmem S1x512 .bf16} {s r : DmaSem sig}
    (hdst : dst = slot landAM i) (hs : s = sendS (exA i)) (hr : r = recvS (exA i))
    {hsc : (dst : Memref sig (Dev.tc n : Thread nD τ).2.kind .vmem S1x512 .bf16).view.ref.isScScratch = false}
    {hsrc : aM.view.WordExact} {hdst' : dst.view.WordExact}
    {hsem : DmaTarget.Typed .vmem (.dma r) (.remote (Dev.tc n : Thread nD τ) (dst : Memref sig .tc .vmem S1x512 .bf16) (.dma s) hsc)}
    {α : Type} {Q : α → sProp 𝕄} {k : PUnit → Prog (TpuEff nD τ sig (Elt F) Λ₀ .tc) α} :
    iprop(records m ρ K ∗ SendSt m ρ c 0 (exA i).val 7)
      ⊢ iprop((SendSt m ρ c 0 ((exA i).val + 1) 7 -∗ WP c (k ⟨⟩) Q)
          -∗ WP c (.op (.enqueueDma aM (.remote (Dev.tc n : Thread nD τ) dst (.dma s) hsc) (.dma r) hsrc hdst' hsem) k) Q) := by
  subst hdst
  unfold SendSt
  rw [seg_first _ (exA i) 7 (exA_lt i), seg_last _ 0 (exA i) (Nat.zero_le _)]
  unfold sendRes
  iintro ⟨#HR, ⟨⟨Ht₁, Ht₂, Hslot, Hsrc⟩, Hrest⟩, Hdone, HO⟩ Hk
  have hx := xfer_step m ρ K c (exA i) n hn (src := aM) (dst := slot landAM i) hs hr (hsc := hsc) (hsrc := hsrc) (hdst := hdst') (hsem := hsem) (Q := Q) (k := k)
    (q := Transfers.shareTokN fullShare i.val) (fs := accA m ρ c) (credA i) (Entails.of_eq (sendPay_lo m ρ c i).symm) (landedA m ρ c i)
    (owedR c ((exA i).val + 1)) (owedR_step c (exA i))
  iapply hx $$ [Hsrc Hslot HO Ht₁ Ht₂]
  · isplitr; · iexact HR
    isplitl [Hsrc]; · rw [← sendPay_lo]; iexact Hsrc
    isplitl [Hslot]; · rw [← slotAny_lo]; iexact Hslot
    isplitl [HO]; · iexact HO
    isplitl [Ht₁]; · iexact Ht₁
    iexact Ht₂
  iintro ⟨Hc, HO⟩
  iapply Hk
  isplitl [Hrest]; · iexact Hrest
  isplitl [Hdone Hc]
  · isplitl [Hc]; · unfold sentRes; iexact Hc
    iexact Hdone
  iexact HO

/-- A transfer of the second level: the octet's maximum into slot `i` of the partner. -/
theorem sendB_step (i : Fin 3) (n : Dev nD) (hn : n = peer c (exB i)) {dst : Memref sig .tc .vmem S1x512 .bf16} {s r : DmaSem sig}
    (hdst : dst = slot landBM i) (hs : s = sendS (exB i)) (hr : r = recvS (exB i))
    {hsc : (dst : Memref sig (Dev.tc n : Thread nD τ).2.kind .vmem S1x512 .bf16).view.ref.isScScratch = false}
    {hsrc : bM.view.WordExact} {hdst' : dst.view.WordExact}
    {hsem : DmaTarget.Typed .vmem (.dma r) (.remote (Dev.tc n : Thread nD τ) (dst : Memref sig .tc .vmem S1x512 .bf16) (.dma s) hsc)}
    {α : Type} {Q : α → sProp 𝕄} {k : PUnit → Prog (TpuEff nD τ sig (Elt F) Λ₀ .tc) α} :
    iprop(records m ρ K ∗ SendSt m ρ c 7 (exB i).val 10)
      ⊢ iprop((SendSt m ρ c 7 ((exB i).val + 1) 10 -∗ WP c (k ⟨⟩) Q)
          -∗ WP c (.op (.enqueueDma bM (.remote (Dev.tc n : Thread nD τ) dst (.dma s) hsc) (.dma r) hsrc hdst' hsem) k) Q) := by
  subst hdst
  unfold SendSt
  rw [seg_first _ (exB i) 10 (exB i).isLt, seg_last _ 7 (exB i) (not_lt.mp (exB_ge i))]
  unfold sendRes
  iintro ⟨#HR, ⟨⟨Ht₁, Ht₂, Hslot, Hsrc⟩, Hrest⟩, Hdone, HO⟩ Hk
  have hx := xfer_step m ρ K c (exB i) n hn (src := bM) (dst := slot landBM i) hs hr (hsc := hsc) (hsrc := hsrc) (hdst := hdst') (hsem := hsem) (Q := Q) (k := k)
    (q := Transfers.shareTokN fullShare i.val) (fs := accB m ρ c) (credB i) (Entails.of_eq (sendPay_hi m ρ c i).symm) (landedB m ρ c i)
    (owedR c ((exB i).val + 1)) (owedR_step c (exB i))
  iapply hx $$ [Hsrc Hslot HO Ht₁ Ht₂]
  · isplitr; · iexact HR
    isplitl [Hsrc]; · rw [← sendPay_hi]; iexact Hsrc
    isplitl [Hslot]; · rw [← slotAny_hi]; iexact Hslot
    isplitl [HO]; · iexact HO
    isplitl [Ht₁]; · iexact Ht₁
    iexact Ht₂
  iintro ⟨Hc, HO⟩
  iapply Hk
  isplitl [Hrest]; · iexact Hrest
  isplitl [Hdone Hc]
  · isplitl [Hc]; · unfold sentRes; iexact Hc
    iexact Hdone
  iexact HO

/-! ## Waits -/

/-- Before the wait for row `j`: the receive cell at its start and the token. -/
def recvRes (j : Fin 10) : sProp 𝕄 := iprop(atPos ER (recvCell c j) 0 ∅ 0 ∗ cred (tallyAt (recvCell c j) () N))
/-- After it: the cell past its round, and the slot with the row. -/
def recvDone (j : Fin 10) : sProp 𝕄 := iprop(atPos ER (recvCell c j) 1 ∅ 0 ∗ landPay m ρ c j)
/-- Rows `a` … `n - 1` arrived, `n` … `b - 1` awaited, `O` owed. -/
def RecvSt (O : CellTallies nD τ sig Unit) (a n b : ℕ) : sProp 𝕄 :=
  iprop(seg (recvRes (F := F) c) n b ∗ seg (recvDone m ρ c) a n ∗ debt (F := F) c O)

/-- Before the wait for the end of transfer `j`, and after it: the lent share is back. -/
def backRes (j : Fin 10) : sProp 𝕄 := iprop(atPos ER (sendCell c j) 0 ∅ 0 ∗ sentRes (F := F) c j)
/-- A send cell's round is over and the lent share is back. -/
def backDone (j : Fin 10) : sProp 𝕄 := iprop(atPos ER (sendCell c j) 1 ∅ 0 ∗ sendPay m ρ c j)
/-- The first `n` transfers ended, the others under way, nothing owed. -/
def BackSt (n : ℕ) : sProp 𝕄 := iprop(seg (backRes (F := F) c) n 10 ∗ seg (backDone m ρ c) 0 n ∗ debt (F := F) c 0)

/-- The wait for row `j`. -/
theorem recv_step (j : Fin 10) (a b : ℕ) (ha : a ≤ j.val) (hb : j.val < b) {O : CellTallies nD τ sig Unit}
    (hO : (levAts L lv : sProp 𝕄) ⊢ MayWait (c : Thread nD τ) (.dma (recvS j)) () O)
    {r : DmaSem sig} (hr : r = recvS j) {src dst : Memref sig .tc .vmem S1x512 .bf16}
    {hsrc : src.view.WordExact} {hdst : dst.view.WordExact} (hcr : dst.view.dmaCredit = N)
    {α : Type} {Q : α → sProp 𝕄} {k : PUnit → Prog (TpuEff nD τ sig (Elt F) Λ₀ .tc) α} :
    iprop(records m ρ K ∗ levAts L lv ∗ RecvSt m ρ c O a j.val b)
      ⊢ iprop((RecvSt m ρ c O a (j.val + 1) b -∗ WP c (k ⟨⟩) Q) -∗ WP c (.op (.waitDma2 r src dst hsrc hdst) k) Q) := by
  subst hr
  unfold RecvSt debt
  rw [seg_first _ j b hb, seg_last _ a j ha]
  unfold recvRes recvDone
  iintro ⟨#HR, #Hlev, ⟨⟨Hat, Hc⟩, Hrest⟩, Hdone, ⟨%W, HO⟩⟩ Hk
  ihave Hrec := (records_at m ρ K (c, .inr (.inr j))) $$ HR
  icases Hrec with ⟨#Hi, -⟩
  have hw : ∀ P : PUnit → sProp 𝕄, wpE (defs₀ (F := F)) 𝒱₀ (c : Thread nD τ) none Set.univ (.waitDma2 (recvS j) src dst hsrc hdst) P
      = waitSpec (c : Thread nD τ) Set.univ (.dma (recvS j)) N P := fun P => by rw [← hcr]; exact wpE_waitDma2_eq 𝒱₀ (c : Thread nD τ) none Set.univ P
  iapply (Rounds.wp_wait_rest_token 𝒱₀ ER (plan m ρ) (c : Thread nD τ) none (κ := K (c, .inr (.inr j))) (k' := N) hw (Set.mem_univ _) () (O := O) (W := W) (R := 0) (m := 0) (T := ∅)
      ((Nat.zero_add N).trans (expect_recv m ρ c j).symm)) $$ [Hc HO Hat]
  · isplitr; · iexact Hi
    isplitl [Hc]; · iexact Hc
    isplitl [HO]; · iexact HO
    isplitr; · iapply hO; iexact Hlev
    iexact Hat
  iintro ⟨HO, Hat, -, Hpay⟩
  ihave Hp := (Entails.of_eq (rest_recv m ρ c j)) $$ Hpay
  iapply Hk
  isplitl [Hrest]; · iexact Hrest
  isplitl [Hat Hp Hdone]
  · isplitl [Hat Hp]
    · isplitl [Hat]; · iexact Hat
      iexact Hp
    iexact Hdone
  iexists _; iexact HO

/-- The wait for the end of transfer `j`. -/
theorem back_step (j : Fin 10) {s : DmaSem sig} (hs : s = sendS j) {src dst : Memref sig .tc .vmem S1x512 .bf16}
    {hsrc : src.view.WordExact} {hdst : dst.view.WordExact} (hcr : dst.view.dmaCredit = N)
    {α : Type} {Q : α → sProp 𝕄} {k : PUnit → Prog (TpuEff nD τ sig (Elt F) Λ₀ .tc) α} :
    iprop(records m ρ K ∗ BackSt m ρ c j.val)
      ⊢ iprop((BackSt m ρ c (j.val + 1) -∗ WP c (k ⟨⟩) Q) -∗ WP c (.op (.waitDma2 s src dst hsrc hdst) k) Q) := by
  subst hs
  unfold BackSt debt
  rw [seg_first _ j 10 j.isLt, seg_last _ 0 j (Nat.zero_le _)]
  unfold backRes backDone sentRes
  iintro ⟨#HR, ⟨⟨Hat, Hc⟩, Hrest⟩, Hdone, ⟨%W, HO⟩⟩ Hk
  ihave Hrec := (records_at m ρ K (c, .inr (.inl j))) $$ HR
  icases Hrec with ⟨#Hi, -⟩
  have hw : ∀ P : PUnit → sProp 𝕄, wpE (defs₀ (F := F)) 𝒱₀ (c : Thread nD τ) none Set.univ (.waitDma2 (sendS j) src dst hsrc hdst) P
      = waitSpec (c : Thread nD τ) Set.univ (.dma (sendS j)) N P := fun P => by rw [← hcr]; exact wpE_waitDma2_eq 𝒱₀ (c : Thread nD τ) none Set.univ P
  iapply (Rounds.wp_wait_rest_token 𝒱₀ ER (plan m ρ) (c : Thread nD τ) none (κ := K (c, .inr (.inl j))) (k' := N) hw (Set.mem_univ _) () (O := 0) (W := W) (R := 0) (m := 0) (T := ∅)
      ((Nat.zero_add N).trans (expect_send m ρ c j).symm)) $$ [Hc HO Hat]
  · isplitr; · iexact Hi
    isplitl [Hc]; · iexact Hc
    isplitl [HO]; · iexact HO
    isplitr; · rw [MayWait_zero]; iempintro
    iexact Hat
  iintro ⟨HO, Hat, -, Hpay⟩
  ihave Hp := (Entails.of_eq (rest_send m ρ c j)) $$ Hpay
  iapply Hk
  isplitl [Hrest]; · iexact Hrest
  isplitl [Hat Hp Hdone]
  · isplitl [Hat Hp]
    · isplitl [Hat]; · iexact Hat
      iexact Hp
    iexact Hdone
  iexists _; iexact HO

/-! ## Slots and shares, apart and together -/

omit [FloatOps F] in
/-- A whole landing buffer is its slots. -/
theorem stack_split {n : ℕ} (M : Memref sig .tc .vmem (Stk n) .bf16) (hM : M.view.set = Finset.univ) (f : Buf (Elt F) (M.view.loc (c : Thread nD τ))) :
    (M.view.loc (c : Thread nD τ) ↦{fullShare} f : sProp 𝕄) = bigSep Finset.univ fun i : Fin n => pts c (slot M i) fullShare f :=
  Ring.pointsTo_blocks (Ix := Unit) (Name := ℕ) (U := UU) (Lvl := ℕ) (q := fullShare) (Val := Elt F) (ℓ := M.view.loc (c : Thread nD τ))
    (fun i : Fin n => (slot M i).view.set) (fun i j h => slot_disjoint M i j h) ((slot_cover M).trans hM) f

/-- All twenty-one counters are back at zero once every cell is past its round. -/
theorem close_all (Es : Set ℕ) (hE : ∀ x, K x ∈ Es) :
    iprop(records m ρ K ∗ bigSep Finset.univ fun x : Kx => atPos ER (kcell (c, x)) 1 ∅ 0)
      ⊢ |={Es}=> bigSep Finset.univ fun x : Kx => (semVal (kcell (c, x)) 0 : sProp 𝕄) := by
  refine BI.Entails.trans (bigSep_with_persistent ?_) (bigSep_fupd _ _)
  intro x _
  iintro ⟨#HR, Hat⟩
  ihave Hrec := (records_at m ρ K (c, x)) $$ HR
  icases Hrec with ⟨#Hi, -⟩
  iapply (Rounds.cell_close ER (plan m ρ) (hE (c, x)) (fun h => h) (R := 1) (duties_later m ρ (kcell (c, x))))
  isplitr; · iexact Hi
  iexact Hat

end Cert.ColMax

end
-- ==== Proof.Body.lean ====
/-
# The body's nine parts

The kernel's text is cut into nine parts. Each has one lemma: what it needs, what it leaves, whatever comes after it.
-/
module

public import proofs.«01_k».proof.Proof.Steps

@[expose] public section

noncomputable section

namespace Cert.ColMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg) (K : Dev nD × Kx → ℕ) (c : Dev nD)

/-! ## The device numbers the kernel computes -/

/-- The device that signal 0 goes to is the partner of exchange 0; so it is, below, for each signal. -/
theorem sig0 (c : Dev nD) : (⟨k0_dev1 c, k0_dev1_lt c⟩ : Dev nD) = peer c 0 := by revert c; decide
theorem sig1 (c : Dev nD) : (⟨k0_dev2 c, k0_dev2_lt c⟩ : Dev nD) = peer c 1 := by revert c; decide
theorem sig2 (c : Dev nD) : (⟨k0_dev3 c, k0_dev3_lt c⟩ : Dev nD) = peer c 2 := by revert c; decide
theorem sig3 (c : Dev nD) : (⟨k0_dev4 c, k0_dev4_lt c⟩ : Dev nD) = peer c 3 := by revert c; decide
theorem sig4 (c : Dev nD) : (⟨k0_dev5 c, k0_dev5_lt c⟩ : Dev nD) = peer c 4 := by revert c; decide
theorem sig5 (c : Dev nD) : (⟨k0_dev6 c, k0_dev6_lt c⟩ : Dev nD) = peer c 5 := by revert c; decide
theorem sig6 (c : Dev nD) : (⟨k0_dev7 c, k0_dev7_lt c⟩ : Dev nD) = peer c 6 := by revert c; decide
theorem sig7 (c : Dev nD) : (⟨k0_dev8 c, k0_dev8_lt c⟩ : Dev nD) = peer c 7 := by revert c; decide
theorem sig8 (c : Dev nD) : (⟨k0_dev9 c, k0_dev9_lt c⟩ : Dev nD) = peer c 8 := by revert c; decide
theorem sig9 (c : Dev nD) : (⟨k0_dev10 c, k0_dev10_lt c⟩ : Dev nD) = peer c 9 := by revert c; decide
/-- The device that row 0 goes to is the partner of first-level slot 0; so it is, below, for each row of both levels. -/
theorem to0 (c : Dev nD) : (⟨k0_dev11 c, k0_dev11_lt c⟩ : Dev nD) = peer c (exA 0) := by revert c; decide
theorem to1 (c : Dev nD) : (⟨k0_dev12 c, k0_dev12_lt c⟩ : Dev nD) = peer c (exA 1) := by revert c; decide
theorem to2 (c : Dev nD) : (⟨k0_dev13 c, k0_dev13_lt c⟩ : Dev nD) = peer c (exA 2) := by revert c; decide
theorem to3 (c : Dev nD) : (⟨k0_dev14 c, k0_dev14_lt c⟩ : Dev nD) = peer c (exA 3) := by revert c; decide
theorem to4 (c : Dev nD) : (⟨k0_dev15 c, k0_dev15_lt c⟩ : Dev nD) = peer c (exA 4) := by revert c; decide
theorem to5 (c : Dev nD) : (⟨k0_dev16 c, k0_dev16_lt c⟩ : Dev nD) = peer c (exA 5) := by revert c; decide
theorem to6 (c : Dev nD) : (⟨k0_dev17 c, k0_dev17_lt c⟩ : Dev nD) = peer c (exA 6) := by revert c; decide
theorem to7 (c : Dev nD) : (⟨k0_dev18 c, k0_dev18_lt c⟩ : Dev nD) = peer c (exB 0) := by revert c; decide
theorem to8 (c : Dev nD) : (⟨k0_dev19 c, k0_dev19_lt c⟩ : Dev nD) = peer c (exB 1) := by revert c; decide
theorem to9 (c : Dev nD) : (⟨k0_dev20 c, k0_dev20_lt c⟩ : Dev nD) = peer c (exB 2) := by revert c; decide

/-! ## Whole buffers -/

/-- A whole buffer of device `c` held with share `q`. -/
abbrev buf (b : Ref sig .tc) (q : PosShare TreeShare) (f : Buf (Elt F) ((c : Thread nD τ).loc b)) : sProp 𝕄 := ((c : Thread nD τ).loc b) ↦{q} f

/-- The whole input block, -/
abbrev rX : Rect S1024x512 := Rect.unit (s := S1024x512) ![0, 0] S1024x512.size inb_S1024x512_S1024x512_0_0
/-- a whole row, -/
abbrev rRow : Rect S1x512 := Rect.unit (s := S1x512) ![0, 0] S1x512.size inb_S1x512_S1x512_0_0
/-- and the whole landing buffer of the first level, -/
abbrev rA : Rect S7x1x512 := Rect.unit (s := S7x1x512) ![0, 0, 0] S7x1x512.size inb_S7x1x512_S7x1x512_0_0_0
/-- and of the second. -/
abbrev rB : Rect S3x1x512 := Rect.unit (s := S3x1x512) ![0, 0, 0] S3x1x512.size inb_S3x1x512_S3x1x512_0_0_0

omit [FloatOps F] in
/-- Loading the whole input block gives its contents; -/
theorem loadX (f : (cc0_stg0_0 : Ref sig .tc).ty.Contents (Elt F)) : xM.view.readAt (Elt F) rX.toLoadRect f = f := Memref.readAt_unit_zero (Elt F) cc0_stg0_0 (by decide) _ f
omit [FloatOps F] in
/-- so does loading the first level's row, -/
theorem loadA (f : (cc0_scratch0 : Ref sig .tc).ty.Contents (Elt F)) : aM.view.readAt (Elt F) rRow.toLoadRect f = f := Memref.readAt_unit_zero (Elt F) cc0_scratch0 (by decide) _ f
omit [FloatOps F] in
/-- the second level's row, -/
theorem loadB (f : (cc0_scratch1 : Ref sig .tc).ty.Contents (Elt F)) : bM.view.readAt (Elt F) rRow.toLoadRect f = f := Memref.readAt_unit_zero (Elt F) cc0_scratch1 (by decide) _ f
omit [FloatOps F] in
/-- the first level's landing buffer, -/
theorem loadLandA (f : (cc0_scratch2 : Ref sig .tc).ty.Contents (Elt F)) : landAM.view.readAt (Elt F) rA.toLoadRect f = f := Memref.readAt_unit_zero (Elt F) cc0_scratch2 (by decide) _ f
omit [FloatOps F] in
/-- and the second level's. -/
theorem loadLandB (f : (cc0_scratch3 : Ref sig .tc).ty.Contents (Elt F)) : landBM.view.readAt (Elt F) rB.toLoadRect f = f := Memref.readAt_unit_zero (Elt F) cc0_scratch3 (by decide) _ f
omit [FloatOps F] in
/-- Storing the whole of the first level's row leaves what was stored; -/
theorem storeA (f w : (cc0_scratch0 : Ref sig .tc).ty.Contents (Elt F)) : (aM.access rRow : View sig .tc _ _ _).write (Elt F) f w Finset.univ = w :=
  Memref.write_access_unit_zero_univ (Elt F) cc0_scratch0 (by decide) _ f w
omit [FloatOps F] in
/-- so does storing the second level's row, -/
theorem storeB (f w : (cc0_scratch1 : Ref sig .tc).ty.Contents (Elt F)) : (bM.access rRow : View sig .tc _ _ _).write (Elt F) f w Finset.univ = w :=
  Memref.write_access_unit_zero_univ (Elt F) cc0_scratch1 (by decide) _ f w
omit [FloatOps F] in
/-- and the output row. -/
theorem storeO (f w : (cc0_stg1_0 : Ref sig .tc).ty.Contents (Elt F)) : (oM.access rRow : View sig .tc _ _ _).write (Elt F) f w Finset.univ = w :=
  Memref.write_access_unit_zero_univ (Elt F) cc0_stg1_0 (by decide) _ f w

/-- A program that has returned. -/
theorem ret_step {α : Type} {Q : α → sProp 𝕄} {a : α} : Q a ⊢ WP c (.ret a) Q := fupd_intro
/-- A part, and then the rest. -/
theorem seq_step {α β : Type} {Q : β → sProp 𝕄} {p : Prog (TpuEff nD τ sig (Elt F) Λ₀ .tc) α} {k : α → Prog (TpuEff nD τ sig (Elt F) Λ₀ .tc) β} :
    WP c p (fun a => WP c (k a) Q) ⊢ WP c (p >>= k) Q := Entails.of_eq (by unfold WP; rw [wp_bind])

/-! ## The parts -/

/-- All signals sent: what is owed is the copies alone. -/
theorem sigSt_done : SigSt (F := F) c ((9 : Fin 10).val + 1) ⊢ debt (F := F) c (owedR c 0) := by
  show SigSt (F := F) c 10 ⊢ _
  unfold SigSt; rw [seg_self, owedB_done, add_zero]; exact BI.emp_sep.1

/-- Six signals. -/
theorem part1_ok : ∃ v2 v23, ∀ Q : (Σ' (d0 : Dev nD) (v2 : BitVec 32) (v3 : Sems sig S_), BitVec 32) → sProp 𝕄,
    iprop(records m ρ K ∗ SigSt (F := F) c 0) ⊢ iprop((SigSt (F := F) c 6 -∗ Q ⟨c, v2, SemArray.scalar (sig.barrier 0 rfl), v23⟩)
      -∗ WP c (k0_part1_skel xM (Memref.isWhole_whole _) oM (Memref.isWhole_whole _) aM (Memref.isWhole_whole _) bM (Memref.isWhole_whole _) landAM (Memref.isWhole_whole _)
        landBM (Memref.isWhole_whole _) cc0_scratch4 cc0_scratch5 cc0_scratch6 cc0_scratch7) Q) := by
  refine ⟨?_, ?_, fun Q => ?_⟩
  rotate_left 2
  · unfold k0_part1_skel
    simp only [semSignalWord, Prog.lift, Prog.bind_op, Prog.bind_ret, Prog.pure_eq_ret, wp_deviceId]
    iintro ⟨#HR, HS⟩ Hk
    iapply (signal_step m ρ K c 0 (congrArg Dev.tc (sig0 c)) rfl rfl) $$ [HS]
    · isplitr; · iexact HR
      iexact HS
    iintro HS
    iapply (signal_step m ρ K c 1 (congrArg Dev.tc (sig1 c)) rfl rfl) $$ [HS]
    · isplitr; · iexact HR
      iexact HS
    iintro HS
    iapply (signal_step m ρ K c 2 (congrArg Dev.tc (sig2 c)) rfl rfl) $$ [HS]
    · isplitr; · iexact HR
      iexact HS
    iintro HS
    iapply (signal_step m ρ K c 3 (congrArg Dev.tc (sig3 c)) rfl rfl) $$ [HS]
    · isplitr; · iexact HR
      iexact HS
    iintro HS
    iapply (signal_step m ρ K c 4 (congrArg Dev.tc (sig4 c)) rfl rfl) $$ [HS]
    · isplitr; · iexact HR
      iexact HS
    iintro HS
    iapply (signal_step m ρ K c 5 (congrArg Dev.tc (sig5 c)) rfl rfl) $$ [HS]
    · isplitr; · iexact HR
      iexact HS
    iintro HS
    iapply (ret_step c)
    iapply Hk; iexact HS

/-- Four signals, the device's own maximum, and the barrier. -/
theorem part2_ok (v2 v23 : BitVec 32) (fA : Buf (Elt F) ((c : Thread nD τ).loc cc0_scratch0)) : ∃ v41, ∀ Q : BitVec 32 → sProp 𝕄,
    iprop(records m ρ K ∗ levAts L lv ∗ SigSt (F := F) c 6 ∗ buf c cc0_stg0_0 fullShare (xAt m ρ c) ∗ buf c cc0_scratch0 fullShare fA
        ∗ cred (tallyAt (barCell c) () 10) ∗ atPos ER (barCell c) 0 ∅ 0)
      ⊢ iprop(((buf c cc0_stg0_0 fullShare (xAt m ρ c) ∗ buf c cc0_scratch0 fullShare (accA m ρ c) ∗ atPos ER (barCell c) 1 ∅ 0
          ∗ debt (F := F) c (owedR c 0) ∗ bigSep Finset.univ fun d : Fin 10 => slotAny (F := F) (peer c d) d) -∗ Q v41)
      -∗ WP c (k0_part2_skel xM (Memref.isWhole_whole _) oM (Memref.isWhole_whole _) aM (Memref.isWhole_whole _) bM (Memref.isWhole_whole _) landAM (Memref.isWhole_whole _)
        landBM (Memref.isWhole_whole _) cc0_scratch4 cc0_scratch5 cc0_scratch6 cc0_scratch7 c v2 (SemArray.scalar (sig.barrier 0 rfl)) v23) Q) := by
  refine ⟨?_, fun Q => ?_⟩
  rotate_left 1
  · unfold k0_part2_skel
    simp only [semSignalWord, semWaitWord, Prog.lift, Prog.bind_op, Prog.bind_ret, Prog.pure_eq_ret]
    iintro ⟨#HR, #Hlev, HS, Hx, Ha, Hc, Hat⟩ Hk
    iapply (signal_step m ρ K c 6 (congrArg Dev.tc (sig6 c)) rfl rfl) $$ [HS]
    · isplitr; · iexact HR
      iexact HS
    iintro HS
    iapply (signal_step m ρ K c 7 (congrArg Dev.tc (sig7 c)) rfl rfl) $$ [HS]
    · isplitr; · iexact HR
      iexact HS
    iintro HS
    iapply (signal_step m ρ K c 8 (congrArg Dev.tc (sig8 c)) rfl rfl) $$ [HS]
    · isplitr; · iexact HR
      iexact HS
    iintro HS
    iapply (signal_step m ρ K c 9 (congrArg Dev.tc (sig9 c)) rfl rfl) $$ [HS]
    · isplitr; · iexact HR
      iexact HS
    iintro HS
    iapply (wp_load 𝒱₀ (c : Thread nD τ) none Set.univ (m := xM) (Finset.subset_univ _)) $$ Hx; iintro Hx
    rw [loadX]
    iapply (wp_load 𝒱₀ (c : Thread nD τ) none Set.univ (m := aM) (Finset.subset_univ _)) $$ Ha; iintro Ha
    iapply (wp_store 𝒱₀ (c : Thread nD τ) none Set.univ (m := aM) (r := rRow) (Mk := Finset.univ) (Finset.subset_univ _)) $$ Ha; iintro Ha
    rw [storeA]
    ihave HO := (sigSt_done c) $$ HS
    iapply (barrier_step m ρ K c rfl rfl) $$ [Hc Hat HO]
    · isplitr; · iexact HR
      isplitr; · iexact Hlev
      isplitl [Hc]; · iexact Hc
      isplitl [Hat]; · iexact Hat
      iexact HO
    iintro ⟨Hat, HO, Hslots⟩
    iapply (ret_step c)
    iapply Hk
    isplitl [Hx]; · iexact Hx
    isplitl [Ha]; · iexact Ha
    isplitl [Hat]; · iexact Hat
    isplitl [HO]; · iexact HO
    iexact Hslots

/-- Four transfers of the first level. -/
theorem part3_ok (v2 : BitVec 32) : ∃ r, ∀ Q : (Σ' (v50 : BitVec 32) (v59 : BitVec 32) (v68 : BitVec 32), BitVec 32) → sProp 𝕄,
    iprop(records m ρ K ∗ SendSt m ρ c 0 0 7) ⊢ iprop((SendSt m ρ c 0 4 7 -∗ Q r) -∗ WP c (k0_part3_skel xM (Memref.isWhole_whole _) oM (Memref.isWhole_whole _) aM (Memref.isWhole_whole _) bM (Memref.isWhole_whole _) landAM (Memref.isWhole_whole _)
        landBM (Memref.isWhole_whole _) cc0_scratch4 cc0_scratch5 cc0_scratch6 cc0_scratch7 c v2) Q) := by
  refine ⟨?_, fun Q => ?_⟩
  rotate_left 1
  · unfold k0_part3_skel
    simp only [Prog.lift, Prog.bind_op, Prog.bind_ret, Prog.pure_eq_ret]
    iintro ⟨#HR, HS⟩ Hk
    iapply (sendA_step m ρ K c 0 _ (to0 c) rfl rfl rfl) $$ [HS]
    · isplitr; · iexact HR
      iexact HS
    iintro HS
    iapply (sendA_step m ρ K c 1 _ (to1 c) rfl rfl rfl) $$ [HS]
    · isplitr; · iexact HR
      iexact HS
    iintro HS
    iapply (sendA_step m ρ K c 2 _ (to2 c) rfl rfl rfl) $$ [HS]
    · isplitr; · iexact HR
      iexact HS
    iintro HS
    iapply (sendA_step m ρ K c 3 _ (to3 c) rfl rfl rfl) $$ [HS]
    · isplitr; · iexact HR
      iexact HS
    iintro HS
    iapply (ret_step c)
    iapply Hk; iexact HS

/-- The other three. -/
theorem part4_ok (v2 v41 v77 : BitVec 32) : ∃ r, ∀ Q : (Σ' (v86 : BitVec 32), BitVec 32) → sProp 𝕄,
    iprop(records m ρ K ∗ SendSt m ρ c 0 4 7) ⊢ iprop((SendSt m ρ c 0 7 7 -∗ Q r) -∗ WP c (k0_part4_skel xM (Memref.isWhole_whole _) oM (Memref.isWhole_whole _) aM (Memref.isWhole_whole _) bM (Memref.isWhole_whole _) landAM (Memref.isWhole_whole _)
        landBM (Memref.isWhole_whole _) cc0_scratch4 cc0_scratch5 cc0_scratch6 cc0_scratch7 c v2 v41 v77) Q) := by
  refine ⟨?_, fun Q => ?_⟩
  rotate_left 1
  · unfold k0_part4_skel
    simp only [Prog.lift, Prog.bind_op, Prog.bind_ret, Prog.pure_eq_ret]
    iintro ⟨#HR, HS⟩ Hk
    iapply (sendA_step m ρ K c 4 _ (to4 c) rfl rfl rfl) $$ [HS]
    · isplitr; · iexact HR
      iexact HS
    iintro HS
    iapply (sendA_step m ρ K c 5 _ (to5 c) rfl rfl rfl) $$ [HS]
    · isplitr; · iexact HR
      iexact HS
    iintro HS
    iapply (sendA_step m ρ K c 6 _ (to6 c) rfl rfl rfl) $$ [HS]
    · isplitr; · iexact HR
      iexact HS
    iintro HS
    iapply (ret_step c)
    iapply Hk; iexact HS

/-- The row the first level sends has the one credit. -/
theorem credA0 : aM.view.dmaCredit = N := rfl

/-- A level's waits begin. -/
theorem recvSt_start (O : CellTallies nD τ sig Unit) (a b : ℕ) : iprop(seg (recvRes (F := F) c) a b ∗ debt (F := F) c O) ⊢ RecvSt m ρ c O a a b := by
  unfold RecvSt; rw [seg_self (recvDone m ρ c)]
  iintro ⟨H, HO⟩
  isplitl [H]; · iexact H
  isplitr; · iempintro
  iexact HO
/-- The waits for the transfers' ends begin. -/
theorem backSt_start : iprop(seg (backRes (F := F) c) 0 10 ∗ debt (F := F) c 0) ⊢ BackSt m ρ c 0 := by
  unfold BackSt; rw [seg_self (backDone m ρ c)]
  iintro ⟨H, HO⟩
  isplitl [H]; · iexact H
  isplitr; · iempintro
  iexact HO
/-- A level's transfers are under way. -/
theorem sendSt_done (a b : ℕ) : SendSt m ρ c a b b ⊢ iprop(seg (sentRes (F := F) c) a b ∗ debt (F := F) c (owedR c b)) := by
  unfold SendSt; rw [seg_self (sendRes m ρ c)]
  iintro ⟨-, H, HO⟩
  isplitl [H]; · iexact H
  iexact HO

/-- The first five waits of the first level. -/
theorem part5_ok (v50 v59 v68 v77 : BitVec 32) (Q : PUnit → sProp 𝕄) :
    iprop(records m ρ K ∗ levAts L lv ∗ RecvSt m ρ c (owedR c 7) 0 0 7) ⊢ iprop((RecvSt m ρ c (owedR c 7) 0 5 7 -∗ Q ⟨⟩)
      -∗ WP c (k0_part5_skel xM (Memref.isWhole_whole _) oM (Memref.isWhole_whole _) aM (Memref.isWhole_whole _) bM (Memref.isWhole_whole _) landAM (Memref.isWhole_whole _)
        landBM (Memref.isWhole_whole _) cc0_scratch4 cc0_scratch5 cc0_scratch6 cc0_scratch7 v50 v59 v68 v77) Q) := by
    unfold k0_part5_skel
    simp only [Prog.lift, Prog.bind_op, Prog.bind_ret, Prog.pure_eq_ret]
    iintro ⟨#HR, #Hlev, HS⟩ Hk
    iapply (recv_step m ρ K c (exA 0) 0 7 (Nat.zero_le _) (exA_lt 0) (mayWait_recv c (exA 0) (exA_lt 0)) rfl (credA 0)) $$ [HS]
    · isplitr; · iexact HR
      isplitr; · iexact Hlev
      iexact HS
    iintro HS
    iapply (recv_step m ρ K c (exA 1) 0 7 (Nat.zero_le _) (exA_lt 1) (mayWait_recv c (exA 1) (exA_lt 1)) rfl (credA 1)) $$ [HS]
    · isplitr; · iexact HR
      isplitr; · iexact Hlev
      iexact HS
    iintro HS
    iapply (recv_step m ρ K c (exA 2) 0 7 (Nat.zero_le _) (exA_lt 2) (mayWait_recv c (exA 2) (exA_lt 2)) rfl (credA 2)) $$ [HS]
    · isplitr; · iexact HR
      isplitr; · iexact Hlev
      iexact HS
    iintro HS
    iapply (recv_step m ρ K c (exA 3) 0 7 (Nat.zero_le _) (exA_lt 3) (mayWait_recv c (exA 3) (exA_lt 3)) rfl (credA 3)) $$ [HS]
    · isplitr; · iexact HR
      isplitr; · iexact Hlev
      iexact HS
    iintro HS
    iapply (recv_step m ρ K c (exA 4) 0 7 (Nat.zero_le _) (exA_lt 4) (mayWait_recv c (exA 4) (exA_lt 4)) rfl (credA 4)) $$ [HS]
    · isplitr; · iexact HR
      isplitr; · iexact Hlev
      iexact HS
    iintro HS
    iapply (ret_step c)
    iapply Hk; iexact HS

/-! ## A buffer's shares and slots -/

/-- The own maximum's buffer: a share to read by, and one share for each transfer. -/
theorem sharesA : buf c cc0_scratch0 fullShare (accA m ρ c)
    = iprop(buf c cc0_scratch0 (Transfers.shareDrop fullShare 7) (accA m ρ c) ∗ seg (sendPay m ρ c) 0 7) := by
  rw [seg_A]
  have h : ∀ i : Fin 7, sendPay m ρ c (exA i) = buf c cc0_scratch0 (Transfers.shareTok fullShare 7 i) (accA m ρ c) := fun i => by
    rw [sendPay_lo]; unfold pts; rw [View.set_whole]
  simp only [h]
  exact BI.Entails.antisymm (Transfers.pointsTo_toks fullShare 7).1 (Transfers.pointsTo_toks fullShare 7).2
/-- The octet's maximum's buffer likewise. -/
theorem sharesB : buf c cc0_scratch1 fullShare (accB m ρ c)
    = iprop(buf c cc0_scratch1 (Transfers.shareDrop fullShare 3) (accB m ρ c) ∗ seg (sendPay m ρ c) 7 10) := by
  rw [seg_B]
  have h : ∀ i : Fin 3, sendPay m ρ c (exB i) = buf c cc0_scratch1 (Transfers.shareTok fullShare 3 i) (accB m ρ c) := fun i => by
    rw [sendPay_hi]; unfold pts; rw [View.set_whole]
  simp only [h]
  exact BI.Entails.antisymm (Transfers.pointsTo_toks fullShare 3).1 (Transfers.pointsTo_toks fullShare 3).2

/-- The seven landed rows are the first landing buffer; -/
theorem landedAllA : seg (landPay m ρ c) 0 7 = buf c cc0_scratch2 fullShare (gotA m ρ c) := by
  rw [seg_A]; simp only [landPay_lo]; exact (stack_split c landAM (View.set_whole _) _).symm
/-- the three are the second. -/
theorem landedAllB : seg (landPay m ρ c) 7 10 = buf c cc0_scratch3 fullShare (gotB m ρ c) := by
  rw [seg_B]; simp only [landPay_hi]; exact (stack_split c landBM (View.set_whole _) _).symm

omit [FloatOps F] in
/-- The two landing buffers, cut into the slots to give away. -/
theorem slots_cut (f₂ : Buf (Elt F) ((c : Thread nD τ).loc cc0_scratch2)) (f₃ : Buf (Elt F) ((c : Thread nD τ).loc cc0_scratch3)) :
    iprop(buf c cc0_scratch2 fullShare f₂ ∗ buf c cc0_scratch3 fullShare f₃) ⊢ bigSep Finset.univ fun j : Fin 10 => slotAny (F := F) c j := by
  rw [← seg_all, seg_split _ 0 7 10 (by decide) (by decide), seg_A, seg_B]
  refine BI.sep_mono ?_ ?_
  · refine (Entails.of_eq (stack_split c landAM (View.set_whole _) f₂)).trans (bigSep_mono fun i _ => ?_)
    rw [slotAny_lo]
    exact (show pts c (slot landAM i) fullShare f₂ ⊢ iprop(∃ f, pts c (slot landAM i) fullShare f) from by iintro H; iexists f₂; iexact H)
  · refine (Entails.of_eq (stack_split c landBM (View.set_whole _) f₃)).trans (bigSep_mono fun i _ => ?_)
    rw [slotAny_hi]
    exact (show pts c (slot landBM i) fullShare f₃ ⊢ iprop(∃ f, pts c (slot landBM i) fullShare f) from by iintro H; iexists f₃; iexact H)

/-- All rows of a level are in: the cells are past their round, and the rows are together. -/
theorem recvSt_done (O : CellTallies nD τ sig Unit) (a b : ℕ) :
    RecvSt m ρ c O a b b ⊢ iprop(seg (fun j => atPos ER (recvCell c j) 1 ∅ 0) a b ∗ seg (landPay m ρ c) a b ∗ debt (F := F) c O) := by
  unfold RecvSt recvDone
  rw [seg_self, seg_sep]
  iintro ⟨-, ⟨Ha, Hb⟩, HO⟩
  isplitl [Ha]; · iexact Ha
  isplitl [Hb]; · iexact Hb
  iexact HO

omit [FloatOps F] in
/-- A device that owes nothing may wait. -/
theorem mayWait_none (sm : SemLoc sig) : (levAts L lv : sProp 𝕄) ⊢ MayWait (c : Thread nD τ) sm () 0 := by
  rw [MayWait_zero]; exact BI.true_intro

/-- The last waits of the first level, and the octet's maximum. -/
theorem part6_ok (v2 v86 v95 : BitVec 32) (fB : Buf (Elt F) ((c : Thread nD τ).loc cc0_scratch1)) : ∃ r, ∀ Q : BitVec 32 → sProp 𝕄,
    iprop(records m ρ K ∗ levAts L lv ∗ RecvSt m ρ c (owedR c 7) 0 5 7 ∗ buf c cc0_scratch0 (Transfers.shareDrop fullShare 7) (accA m ρ c)
        ∗ buf c cc0_scratch1 fullShare fB)
      ⊢ iprop(((seg (fun j => atPos ER (recvCell c j) 1 ∅ 0) 0 7 ∗ debt (F := F) c (owedR c 7) ∗ buf c cc0_scratch2 fullShare (gotA m ρ c)
          ∗ buf c cc0_scratch0 (Transfers.shareDrop fullShare 7) (accA m ρ c) ∗ buf c cc0_scratch1 fullShare (accB m ρ c)) -∗ Q r)
      -∗ WP c (k0_part6_skel xM (Memref.isWhole_whole _) oM (Memref.isWhole_whole _) aM (Memref.isWhole_whole _) bM (Memref.isWhole_whole _) landAM (Memref.isWhole_whole _)
        landBM (Memref.isWhole_whole _) cc0_scratch4 cc0_scratch5 cc0_scratch6 cc0_scratch7 v2 v86 v95) Q) := by
  refine ⟨?_, fun Q => ?_⟩
  rotate_left 1
  · unfold k0_part6_skel
    simp only [Prog.lift, Prog.bind_op, Prog.bind_ret, Prog.pure_eq_ret]
    iintro ⟨#HR, #Hlev, HS, Ha, Hb⟩ Hk
    iapply (recv_step m ρ K c (exA 5) 0 7 (Nat.zero_le _) (exA_lt 5) (mayWait_recv c (exA 5) (exA_lt 5)) rfl (credA 5)) $$ [HS]
    · isplitr; · iexact HR
      isplitr; · iexact Hlev
      iexact HS
    iintro HS
    iapply (recv_step m ρ K c (exA 6) 0 7 (Nat.zero_le _) (exA_lt 6) (mayWait_recv c (exA 6) (exA_lt 6)) rfl (credA 6)) $$ [HS]
    · isplitr; · iexact HR
      isplitr; · iexact Hlev
      iexact HS
    iintro HS
    ihave HS := (show RecvSt m ρ c (owedR c 7) 0 ((exA 6).val + 1) 7 ⊢ iprop(seg (fun j => atPos ER (recvCell c j) 1 ∅ 0) 0 7 ∗ seg (landPay m ρ c) 0 7
      ∗ debt (F := F) c (owedR c 7)) from recvSt_done m ρ c (owedR c 7) 0 7) $$ HS
    icases HS with ⟨Hat, Hl, HO⟩
    ihave Hl := (Entails.of_eq (landedAllA m ρ c)) $$ Hl
    iapply (wp_load 𝒱₀ (c : Thread nD τ) none Set.univ (m := landAM) (Finset.subset_univ _)) $$ Hl; iintro Hl
    rw [loadLandA]
    iapply (wp_load 𝒱₀ (c : Thread nD τ) none Set.univ (m := aM) (Finset.subset_univ _)) $$ Ha; iintro Ha
    rw [loadA]
    iapply (wp_load 𝒱₀ (c : Thread nD τ) none Set.univ (m := bM) (Finset.subset_univ _)) $$ Hb; iintro Hb
    iapply (wp_store 𝒱₀ (c : Thread nD τ) none Set.univ (m := bM) (r := rRow) (Mk := Finset.univ) (Finset.subset_univ _)) $$ Hb; iintro Hb
    rw [storeB]
    iapply (ret_step c)
    iapply Hk
    isplitl [Hat]; · iexact Hat
    isplitl [HO]; · iexact HO
    isplitl [Hl]; · iexact Hl
    isplitl [Ha]; · iexact Ha
    iexact Hb

/-- The second level's transfers, and its first wait. -/
theorem part7_ok (v2 v153 : BitVec 32) : ∃ r, ∀ Q : BitVec 32 → sProp 𝕄,
    iprop(records m ρ K ∗ levAts L lv ∗ SendSt m ρ c 7 7 10 ∗ seg (recvRes (F := F) c) 7 10)
      ⊢ iprop(((seg (sentRes (F := F) c) 7 10 ∗ RecvSt m ρ c 0 7 8 10) -∗ Q r)
      -∗ WP c (k0_part7_skel xM (Memref.isWhole_whole _) oM (Memref.isWhole_whole _) aM (Memref.isWhole_whole _) bM (Memref.isWhole_whole _) landAM (Memref.isWhole_whole _)
        landBM (Memref.isWhole_whole _) cc0_scratch4 cc0_scratch5 cc0_scratch6 cc0_scratch7 c v2 v153) Q) := by
  refine ⟨?_, fun Q => ?_⟩
  rotate_left 1
  · unfold k0_part7_skel
    simp only [Prog.lift, Prog.bind_op, Prog.bind_ret, Prog.pure_eq_ret]
    iintro ⟨#HR, #Hlev, HS, Hr⟩ Hk
    iapply (sendB_step m ρ K c 0 _ (to7 c) rfl rfl rfl) $$ [HS]
    · isplitr; · iexact HR
      iexact HS
    iintro HS
    iapply (sendB_step m ρ K c 1 _ (to8 c) rfl rfl rfl) $$ [HS]
    · isplitr; · iexact HR
      iexact HS
    iintro HS
    iapply (sendB_step m ρ K c 2 _ (to9 c) rfl rfl rfl) $$ [HS]
    · isplitr; · iexact HR
      iexact HS
    iintro HS
    ihave HS := (show SendSt m ρ c 7 ((exB 2).val + 1) 10 ⊢ iprop(seg (sentRes (F := F) c) 7 10 ∗ debt (F := F) c (owedR c 10)) from sendSt_done m ρ c 7 10) $$ HS
    icases HS with ⟨Hsent, HO⟩
    rw [owedR_done]
    ihave HS := (recvSt_start m ρ c 0 7 10) $$ [Hr HO]
    · isplitl [Hr]; · iexact Hr
      iexact HO
    iapply (recv_step m ρ K c (exB 0) 7 10 (not_lt.mp (exB_ge 0)) (exB 0).isLt (mayWait_none c _) rfl (credB 0)) $$ [HS]
    · isplitr; · iexact HR
      isplitr; · iexact Hlev
      iexact HS
    iintro HS
    iapply (ret_step c)
    iapply Hk
    isplitl [Hsent]; · iexact Hsent
    iexact HS

/-- The last rows, the result, and the ends of the first two transfers. -/
theorem part8_ok (v171 : BitVec 32) (fO : Buf (Elt F) ((c : Thread nD τ).loc cc0_stg1_0)) (Q : PUnit → sProp 𝕄) :
    iprop(records m ρ K ∗ levAts L lv ∗ RecvSt m ρ c 0 7 8 10 ∗ buf c cc0_scratch1 (Transfers.shareDrop fullShare 3) (accB m ρ c)
        ∗ buf c cc0_stg1_0 fullShare fO ∗ seg (backRes (F := F) c) 0 10)
      ⊢ iprop(((seg (fun j => atPos ER (recvCell c j) 1 ∅ 0) 7 10 ∗ buf c cc0_scratch3 fullShare (gotB m ρ c)
          ∗ buf c cc0_scratch1 (Transfers.shareDrop fullShare 3) (accB m ρ c) ∗ buf c cc0_stg1_0 fullShare (outAt m ρ c) ∗ BackSt m ρ c 2) -∗ Q ⟨⟩)
      -∗ WP c (k0_part8_skel xM (Memref.isWhole_whole _) oM (Memref.isWhole_whole _) aM (Memref.isWhole_whole _) bM (Memref.isWhole_whole _) landAM (Memref.isWhole_whole _)
        landBM (Memref.isWhole_whole _) cc0_scratch4 cc0_scratch5 cc0_scratch6 cc0_scratch7 v171) Q) := by
    unfold k0_part8_skel
    simp only [Prog.lift, Prog.bind_op, Prog.bind_ret, Prog.pure_eq_ret]
    iintro ⟨#HR, #Hlev, HS, Hb, Ho, Hback⟩ Hk
    iapply (recv_step m ρ K c (exB 1) 7 10 (not_lt.mp (exB_ge 1)) (exB 1).isLt (mayWait_none c _) rfl (credB 1)) $$ [HS]
    · isplitr; · iexact HR
      isplitr; · iexact Hlev
      iexact HS
    iintro HS
    iapply (recv_step m ρ K c (exB 2) 7 10 (not_lt.mp (exB_ge 2)) (exB 2).isLt (mayWait_none c _) rfl (credB 2)) $$ [HS]
    · isplitr; · iexact HR
      isplitr; · iexact Hlev
      iexact HS
    iintro HS
    ihave HS := (show RecvSt m ρ c 0 7 ((exB 2).val + 1) 10 ⊢ iprop(seg (fun j => atPos ER (recvCell c j) 1 ∅ 0) 7 10 ∗ seg (landPay m ρ c) 7 10 ∗ debt (F := F) c 0)
      from recvSt_done m ρ c 0 7 10) $$ HS
    icases HS with ⟨Hat, Hl, HO⟩
    ihave Hl := (Entails.of_eq (landedAllB m ρ c)) $$ Hl
    iapply (wp_load 𝒱₀ (c : Thread nD τ) none Set.univ (m := landBM) (Finset.subset_univ _)) $$ Hl; iintro Hl
    rw [loadLandB]
    iapply (wp_load 𝒱₀ (c : Thread nD τ) none Set.univ (m := bM) (Finset.subset_univ _)) $$ Hb; iintro Hb
    rw [loadB]
    iapply (wp_load 𝒱₀ (c : Thread nD τ) none Set.univ (m := oM) (Finset.subset_univ _)) $$ Ho; iintro Ho
    iapply (wp_store 𝒱₀ (c : Thread nD τ) none Set.univ (m := oM) (r := rRow) (Mk := Finset.univ) (Finset.subset_univ _)) $$ Ho; iintro Ho
    rw [storeO]
    ihave HS := (backSt_start m ρ c) $$ [Hback HO]
    · isplitl [Hback]; · iexact Hback
      iexact HO
    iapply (back_step m ρ K c (exA 0) rfl credA0) $$ [HS]
    · isplitr; · iexact HR
      iexact HS
    iintro HS
    iapply (back_step m ρ K c (exA 1) rfl credA0) $$ [HS]
    · isplitr; · iexact HR
      iexact HS
    iintro HS
    iapply (ret_step c)
    iapply Hk
    isplitl [Hat]; · iexact Hat
    isplitl [Hl]; · iexact Hl
    isplitl [Hb]; · iexact Hb
    isplitl [Ho]; · iexact Ho
    iexact HS

/-- The ends of the other five. -/
theorem part9_ok (Q : PUnit → sProp 𝕄) :
    iprop(records m ρ K ∗ BackSt m ρ c 2) ⊢ iprop((BackSt m ρ c 7 -∗ Q ⟨⟩) -∗ WP c (k0_part9_skel xM (Memref.isWhole_whole _) oM (Memref.isWhole_whole _) aM (Memref.isWhole_whole _) bM (Memref.isWhole_whole _) landAM (Memref.isWhole_whole _)
        landBM (Memref.isWhole_whole _) cc0_scratch4 cc0_scratch5 cc0_scratch6 cc0_scratch7) Q) := by
    unfold k0_part9_skel
    simp only [Prog.lift, Prog.bind_op, Prog.bind_ret, Prog.pure_eq_ret]
    iintro ⟨#HR, HS⟩ Hk
    iapply (back_step m ρ K c (exA 2) rfl credA0) $$ [HS]
    · isplitr; · iexact HR
      iexact HS
    iintro HS
    iapply (back_step m ρ K c (exA 3) rfl credA0) $$ [HS]
    · isplitr; · iexact HR
      iexact HS
    iintro HS
    iapply (back_step m ρ K c (exA 4) rfl credA0) $$ [HS]
    · isplitr; · iexact HR
      iexact HS
    iintro HS
    iapply (back_step m ρ K c (exA 5) rfl credA0) $$ [HS]
    · isplitr; · iexact HR
      iexact HS
    iintro HS
    iapply (back_step m ρ K c (exA 6) rfl credA0) $$ [HS]
    · isplitr; · iexact HR
      iexact HS
    iintro HS
    iapply (ret_step c)
    iapply Hk; iexact HS

/-! ## The whole body -/

/-- What device `c` starts its body with, the buffers apart: its cells' positions, the tokens for its waits, and the duties it pays. -/
def Begin : sProp 𝕄 :=
  iprop(atPos ER (barCell c) 0 ∅ 0 ∗ cred (tallyAt (barCell c) () 10)
    ∗ (bigSep Finset.univ fun j : Fin 10 => atPos ER (sendCell c j) 0 ∅ 0)
    ∗ (bigSep Finset.univ fun j : Fin 10 => atPos ER (recvCell c j) 0 ∅ 0)
    ∗ (bigSep Finset.univ fun j : Fin 10 => cred (tallyAt (recvCell c j) () N))
    ∗ (bigSep Finset.univ fun j : Fin 10 => dutyTok ER (barCell (peer c j)) 0 j)
    ∗ (bigSep Finset.univ fun j : Fin 10 => dutyTok ER (sendCell c j) 0 0)
    ∗ (bigSep Finset.univ fun j : Fin 10 => dutyTok ER (recvCell (peer c j) j) 0 0))

/-- The scratch buffers with some contents. -/
def scratch : sProp 𝕄 :=
  iprop((∃ f, buf c cc0_scratch0 fullShare f) ∗ (∃ f, buf c cc0_scratch1 fullShare f) ∗ (∃ f, buf c cc0_scratch2 fullShare f) ∗ (∃ f, buf c cc0_scratch3 fullShare f))

/-- What it ends with: its block of `x`, the result, the scratch buffers, and its twenty-one counters at zero. -/
def Finish : sProp 𝕄 :=
  iprop(debt (F := F) c 0 ∗ buf c cc0_stg0_0 fullShare (xAt m ρ c) ∗ buf c cc0_stg1_0 fullShare (outAt m ρ c) ∗ scratch (F := F) c
    ∗ bigSep Finset.univ fun x : Kx => semVal (kcell (c, x)) 0)

/-- A row's three spent tokens, from what the launch dealt, the partners' slots and the shares. -/
theorem sendRes_all (a b : ℕ) : seg (sendRes m ρ c) a b = iprop(seg (fun j => dutyTok ER (sendCell c j) 0 0) a b
    ∗ seg (fun j => dutyTok ER (recvCell (peer c j) j) 0 0) a b ∗ seg (fun j => slotAny (F := F) (peer c j) j) a b ∗ seg (sendPay m ρ c) a b) := by
  rw [← seg_sep _ (sendPay m ρ c), ← seg_sep, ← seg_sep]; rfl

/-- At the end: every cell is past its round. -/
theorem positions_all : iprop(atPos ER (barCell c) 1 ∅ 0 ∗ (bigSep Finset.univ fun j : Fin 10 => atPos ER (sendCell c j) 1 ∅ 0)
    ∗ bigSep Finset.univ fun j : Fin 10 => atPos ER (recvCell c j) 1 ∅ 0) ⊢ (bigSep Finset.univ fun x : Kx => atPos ER (kcell (c, x)) 1 ∅ 0 : sProp 𝕄) := by
  rw [bigSep_univ_sum, bigSep_univ_sum, bigSep_univ_of_subsingleton (i := ())]
  exact .rfl

omit [FloatOps F] in
/-- Something of every exchange is it of the first level's and of the second's. -/
theorem levels (P : Fin 10 → sProp 𝕄) : bigSep Finset.univ P = iprop(seg P 0 7 ∗ seg P 7 10) := by
  rw [← seg_all, seg_split P 0 7 10 (by decide) (by decide)]

/-- A level's transfers begin. -/
theorem sendSt_start (a b : ℕ) : iprop(seg (fun j => dutyTok ER (sendCell c j) 0 0) a b ∗ seg (fun j => dutyTok ER (recvCell (peer c j) j) 0 0) a b
    ∗ seg (fun j => slotAny (F := F) (peer c j) j) a b ∗ seg (sendPay m ρ c) a b ∗ debt (F := F) c (owedR c a)) ⊢ SendSt m ρ c a a b := by
  unfold SendSt; rw [sendRes_all, seg_self (sentRes (F := F) c)]
  iintro ⟨H1, H2, H3, H4, HO⟩
  isplitr [HO]
  · isplitl [H1]; · iexact H1
    isplitl [H2]; · iexact H2
    isplitl [H3]; · iexact H3
    iexact H4
  isplitr; · iempintro
  iexact HO

/-- All transfers have ended, and all shares are back. -/
theorem backSt_done : BackSt m ρ c 10 ⊢ iprop((bigSep Finset.univ fun j : Fin 10 => atPos ER (sendCell c j) 1 ∅ 0)
    ∗ (seg (sendPay m ρ c) 0 7 ∗ seg (sendPay m ρ c) 7 10) ∗ debt (F := F) c 0) := by
  unfold BackSt backDone
  rw [seg_self, seg_sep, seg_all, ← seg_split (sendPay m ρ c) 0 7 10 (by decide) (by decide)]
  iintro ⟨-, ⟨H1, H2⟩, HO⟩
  isplitl [H1]; · iexact H1
  isplitl [H2]; · iexact H2
  iexact HO

/-- A program that has returned, behind an update. -/
theorem ret_fupd {α : Type} {Q : α → sProp 𝕄} {a : α} : iprop(|={Set.univ}=> Q a) ⊢ WP c (.ret a) Q := .rfl

/-- **The body, on any device.** -/
theorem body_ok (fO : Buf (Elt F) ((c : Thread nD τ).loc cc0_stg1_0)) :
    iprop(records m ρ K ∗ levAts L lv ∗ Begin (F := F) c ∗ debt (F := F) c (O₀ c) ∗ buf c cc0_stg0_0 fullShare (xAt m ρ c) ∗ buf c cc0_stg1_0 fullShare fO ∗ scratch (F := F) c)
      ⊢ WP c (cc0_body xM (Memref.isWhole_whole _) oM (Memref.isWhole_whole _) aM (Memref.isWhole_whole _) bM (Memref.isWhole_whole _) landAM (Memref.isWhole_whole _)
        landBM (Memref.isWhole_whole _) cc0_scratch4 cc0_scratch5 cc0_scratch6 cc0_scratch7) (fun _ => Finish m ρ c) := by
  obtain ⟨v2, v23, h1⟩ := part1_ok m ρ K c
  rw [cc0_body_eq_skeleton]
  unfold cc0_body_skel
  rw [k0_part1_eq_skeleton, k0_part2_eq_skeleton, k0_part3_eq_skeleton, k0_part4_eq_skeleton, k0_part5_eq_skeleton, k0_part6_eq_skeleton,
    k0_part7_eq_skeleton, k0_part8_eq_skeleton, k0_part9_eq_skeleton]
  unfold Begin scratch
  iintro ⟨#HR, #Hlev, ⟨Hbar, Hcb, Hats, Hatr, Hcr, Htb, Hts, Htr⟩, HO, Hx, Ho, ⟨%fA, Ha⟩, ⟨%fB, Hb⟩, ⟨%f2, Hl2⟩, ⟨%f3, Hl3⟩⟩
  ihave Hsl := (slots_cut c f2 f3) $$ [Hl2 Hl3]
  · isplitl [Hl2]; · iexact Hl2
    iexact Hl3
  ihave HS := (show iprop((bigSep Finset.univ fun j : Fin 10 => dutyTok ER (barCell (peer c j)) 0 j) ∗ (bigSep Finset.univ fun j : Fin 10 => slotAny (F := F) c j)
      ∗ debt (F := F) c (O₀ c)) ⊢ SigSt (F := F) c 0 from by
    unfold SigSt sigRes
    rw [seg_sep, seg_all, seg_all]
    iintro ⟨H1, H2, H3⟩
    isplitl [H1 H2]
    · isplitl [H1]; · iexact H1
      iexact H2
    iexact H3) $$ [Htb Hsl HO]
  · isplitl [Htb]; · iexact Htb
    isplitl [Hsl]; · iexact Hsl
    iexact HO
  iapply (seq_step c)
  iapply (h1 _) $$ [HS]
  · isplitr; · iexact HR
    iexact HS
  iintro HS
  obtain ⟨v41, h2⟩ := part2_ok m ρ K c v2 v23 fA
  iapply (seq_step c)
  iapply (h2 _) $$ [HS Hx Ha Hcb Hbar]
  · isplitr; · iexact HR
    isplitr; · iexact Hlev
    isplitl [HS]; · iexact HS
    isplitl [Hx]; · iexact Hx
    isplitl [Ha]; · iexact Ha
    isplitl [Hcb]; · iexact Hcb
    iexact Hbar
  iintro ⟨Hx, Ha, Hbar, HO, Hsl⟩
  ihave Ha := (Entails.of_eq (sharesA m ρ c)) $$ Ha
  icases Ha with ⟨Ha, Hsh⟩
  ihave Hts := (Entails.of_eq (levels (fun j => dutyTok ER (sendCell c j) 0 0))) $$ Hts
  icases Hts with ⟨HtsA, HtsB⟩
  ihave Htr := (Entails.of_eq (levels (fun j => dutyTok ER (recvCell (peer c j) j) 0 0))) $$ Htr
  icases Htr with ⟨HtrA, HtrB⟩
  ihave Hsl := (Entails.of_eq (levels (fun j => slotAny (F := F) (peer c j) j))) $$ Hsl
  icases Hsl with ⟨HslA, HslB⟩
  ihave Hrr := (show iprop((bigSep Finset.univ fun j : Fin 10 => atPos ER (recvCell c j) 0 ∅ 0) ∗ (bigSep Finset.univ fun j : Fin 10 => cred (tallyAt (recvCell c j) () N)))
      ⊢ (bigSep Finset.univ (recvRes (F := F) c)) from by unfold recvRes; rw [bigSep_sep']) $$ [Hatr Hcr]
  · isplitl [Hatr]; · iexact Hatr
    iexact Hcr
  ihave Hrr := (Entails.of_eq (levels (recvRes (F := F) c))) $$ Hrr
  icases Hrr with ⟨HrrA, HrrB⟩
  ihave HS := (sendSt_start m ρ c 0 7) $$ [HtsA HtrA HslA Hsh HO]
  · isplitl [HtsA]; · iexact HtsA
    isplitl [HtrA]; · iexact HtrA
    isplitl [HslA]; · iexact HslA
    isplitl [Hsh]; · iexact Hsh
    iexact HO
  obtain ⟨r3, h3⟩ := part3_ok m ρ K c v2
  iapply (seq_step c)
  iapply (h3 _) $$ [HS]
  · isplitr; · iexact HR
    iexact HS
  iintro HS
  obtain ⟨r4, h4⟩ := part4_ok m ρ K c v2 v41 r3.2.2.2
  iapply (seq_step c)
  iapply (h4 _) $$ [HS]
  · isplitr; · iexact HR
    iexact HS
  iintro HS
  ihave HS := (sendSt_done m ρ c 0 7) $$ HS
  icases HS with ⟨HsA, HO⟩
  ihave HS := (recvSt_start m ρ c (owedR c 7) 0 7) $$ [HrrA HO]
  · isplitl [HrrA]; · iexact HrrA
    iexact HO
  iapply (seq_step c)
  iapply (part5_ok m ρ K c _ _ _ _ _) $$ [HS]
  · isplitr; · iexact HR
    isplitr; · iexact Hlev
    iexact HS
  iintro HS
  obtain ⟨v153, h6⟩ := part6_ok m ρ K c v2 r4.1 r4.2 fB
  iapply (seq_step c)
  iapply (h6 _) $$ [HS Ha Hb]
  · isplitr; · iexact HR
    isplitr; · iexact Hlev
    isplitl [HS]; · iexact HS
    isplitl [Ha]; · iexact Ha
    iexact Hb
  iintro ⟨HatA, HO, Hl2, Ha, Hb⟩
  ihave Hb := (Entails.of_eq (sharesB m ρ c)) $$ Hb
  icases Hb with ⟨Hb, Hsh⟩
  ihave HS := (sendSt_start m ρ c 7 10) $$ [HtsB HtrB HslB Hsh HO]
  · isplitl [HtsB]; · iexact HtsB
    isplitl [HtrB]; · iexact HtrB
    isplitl [HslB]; · iexact HslB
    isplitl [Hsh]; · iexact Hsh
    iexact HO
  obtain ⟨v171, h7⟩ := part7_ok m ρ K c v2 v153
  iapply (seq_step c)
  iapply (h7 _) $$ [HS HrrB]
  · isplitr; · iexact HR
    isplitr; · iexact Hlev
    isplitl [HS]; · iexact HS
    iexact HrrB
  iintro ⟨HsB, HS⟩
  ihave Hback := (show iprop((bigSep Finset.univ fun j : Fin 10 => atPos ER (sendCell c j) 0 ∅ 0) ∗ seg (sentRes (F := F) c) 0 7 ∗ seg (sentRes (F := F) c) 7 10)
      ⊢ seg (backRes (F := F) c) 0 10 from by
    unfold backRes; rw [seg_sep, seg_all, ← seg_split _ 0 7 10 (by decide) (by decide)]) $$ [Hats HsA HsB]
  · isplitl [Hats]; · iexact Hats
    isplitl [HsA]; · iexact HsA
    iexact HsB
  iapply (seq_step c)
  iapply (part8_ok m ρ K c _ fO _) $$ [HS Hb Ho Hback]
  · isplitr; · iexact HR
    isplitr; · iexact Hlev
    isplitl [HS]; · iexact HS
    isplitl [Hb]; · iexact Hb
    isplitl [Ho]; · iexact Ho
    iexact Hback
  iintro ⟨HatB, Hl3, Hb, Ho, HS⟩
  iapply (seq_step c)
  iapply (part9_ok m ρ K c _) $$ [HS]
  · isplitr; · iexact HR
    iexact HS
  iintro HS
  simp only [Prog.lift, Prog.bind_op, Prog.bind_ret, Prog.pure_eq_ret]
  iapply (back_step m ρ K c (exB 0) rfl credb) $$ [HS]
  · isplitr; · iexact HR
    iexact HS
  iintro HS
  iapply (back_step m ρ K c (exB 1) rfl credb) $$ [HS]
  · isplitr; · iexact HR
    iexact HS
  iintro HS
  iapply (back_step m ρ K c (exB 2) rfl credb) $$ [HS]
  · isplitr; · iexact HR
    iexact HS
  iintro HS
  ihave HS := (show BackSt m ρ c ((exB 2).val + 1) ⊢ iprop((bigSep Finset.univ fun j : Fin 10 => atPos ER (sendCell c j) 1 ∅ 0)
      ∗ (seg (sendPay m ρ c) 0 7 ∗ seg (sendPay m ρ c) 7 10) ∗ debt (F := F) c 0) from backSt_done m ρ c) $$ HS
  icases HS with ⟨Hats, ⟨HshA, HshB⟩, HO⟩
  ihave Ha := (Entails.of_eq (sharesA m ρ c).symm) $$ [Ha HshA]
  · isplitl [Ha]; · iexact Ha
    iexact HshA
  ihave Hb := (Entails.of_eq (sharesB m ρ c).symm) $$ [Hb HshB]
  · isplitl [Hb]; · iexact Hb
    iexact HshB
  ihave Hatr := (Entails.of_eq (levels (fun j => atPos ER (recvCell c j) 1 ∅ 0)).symm) $$ [HatA HatB]
  · isplitl [HatA]; · iexact HatA
    iexact HatB
  ihave Hat := (positions_all c) $$ [Hbar Hats Hatr]
  · isplitl [Hbar]; · iexact Hbar
    isplitl [Hats]; · iexact Hats
    iexact Hatr
  iapply (ret_fupd c)
  ihave Hcl := (close_all m ρ K c Set.univ (fun _ => Set.mem_univ _)) $$ [Hat]
  · isplitr; · iexact HR
    iexact Hat
  imod Hcl with Hsem
  imodintro
  unfold Finish scratch
  isplitl [HO]; · iexact HO
  isplitl [Hx]; · iexact Hx
  isplitl [Ho]; · iexact Ho
  isplitr [Hsem]
  · isplitl [Ha]; · iexists _; iexact Ha
    isplitl [Hb]; · iexists _; iexact Hb
    isplitl [Hl2]; · iexists _; iexact Hl2
    iexists _; iexact Hl3
  iexact Hsem

end Cert.ColMax

end
-- ==== Proof.Launch.lean ====
/-
# The launch: all thirty-two devices at once

The cells' invariants are allocated for all devices together, the duties are dealt to those who pay them, and every
execution of the program is then seen to end with the values that the bodies leave.
-/
module

public import proofs.«01_k».proof.Proof.Body
public import Idealize.ShloMosaic.Lib.Pipeline.Launch
public import Idealize.ShloMosaic.Lib.Pipeline.Kit
public import Idealize.ShloMosaic.Lib.Pipeline.CollectiveSegs

@[expose] public section

noncomputable section

namespace Cert.ColMax

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## The body at the kernel's one grid point -/

/-- A device's ghost state and level facts, the buffers apart. -/
def start (c : Dev nD) : sProp 𝕄 := iprop((∃ K, records m ρ K) ∗ levAts L lv ∗ Begin (F := F) c)
/-- Before the point, with the scratch buffers; -/
def Φ₀ (c : Dev nD) : sProp 𝕄 := iprop(start m ρ c ∗ scratch (F := F) c)
/-- and after it. -/
def Φ₁ (c : Dev nD) : sProp 𝕄 := iprop(scratch (F := F) c ∗ bigSep Finset.univ fun x : Kx => semVal (kcell (c, x)) 0)

/-- The run's data on device `c`: what its windows hold before and after the point, and what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xAt m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

omit [FloatOps F] in
/-- To own a whole buffer with contents `X` is to hold the buffer at `X`. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = buf c b fullShare X := by
  unfold owns
  simp only [Memref.view_whole, View.read_whole, View.set_whole]
  refine BI.Entails.antisymm ?_ ?_
  · show _ ⊢ (_ : sProp 𝕄)
    iintro ⟨%f, %hf, H⟩
    subst hf
    iexact H
  · show _ ⊢ (_ : sProp 𝕄)
    iintro H
    iexists X
    isplitr; · (ipureintro; rfl)
    iexact H

/-- Before the point the input window holds the device's block. -/
theorem before_x (c : Dev nD) (d : _) : (dats m ρ 0 c).before (0 : Fin 2) t0_0 d = xAt m ρ c := by
  unfold Dat.before; rw [if_pos (by rfl)]; rfl

/-- What the body starts from, -/
def pre (c : Dev nD) : sProp 𝕄 :=
  iprop(Φ₀ m ρ c ∗ (dats m ρ 0 c).owesAt () t0_0.castSucc
    ∗ (∃ d, buf c cc0_stg0_0 fullShare ((dats m ρ 0 c).before (0 : Fin 2) t0_0 d))
    ∗ (∃ d, buf c cc0_stg1_0 fullShare ((dats m ρ 0 c).before (1 : Fin 2) t0_0 d)))
/-- and what it ends with. -/
def post (c : Dev nD) : sProp 𝕄 :=
  iprop(Φ₁ (F := F) c ∗ (dats m ρ 0 c).owesAt () t0_0.succ ∗ buf c cc0_stg0_0 fullShare (xAt m ρ c) ∗ buf c cc0_stg1_0 fullShare (outAt m ρ c))

/-- What the last part of the body leaves is what the point asks for. -/
theorem finish_post (c : Dev nD) : Finish m ρ c ⊢ post m ρ c := by
  unfold Finish post Φ₁ debt Dat.owesAt Pipeline.owesWithin
  rw [show (dats m ρ 0 c).owed t0_0.succ = 0 from rfl]
  iintro ⟨⟨%W, HO⟩, Hx, Ho, Hs, Hsem⟩
  isplitl [Hs Hsem]
  · isplitl [Hs]; · iexact Hs
    iexact Hsem
  isplitl [HO]
  · iexists W
    isplitr; · ipureintro; exact fun _ _ => Or.inl trivial
    iexact HO
  isplitl [Hx]; · iexact Hx
  iexact Ho

set_option maxRecDepth 4000 in
/-- At the point the body turns the window contents and the ghost state before into those after. -/
theorem body_obligation (c : Dev nD) : BodyObligation (dats (F := F) m ρ 0 c) (defs₀ (F := F)) 𝒱₀ () Set.univ := fun t => by
  rw [fin_N0 t]
  rw [bigSep_W0, bigSep_W0]
  simp only [owns_whole]
  show pre m ρ c ⊢ WP c (cc0_body xM (Memref.isWhole_whole _) oM (Memref.isWhole_whole _) aM (Memref.isWhole_whole _) bM (Memref.isWhole_whole _)
    landAM (Memref.isWhole_whole _) landBM (Memref.isWhole_whole _) cc0_scratch4 cc0_scratch5 cc0_scratch6 cc0_scratch7) (fun _ => post m ρ c)
  unfold pre Φ₀ start Dat.owesAt Pipeline.owesWithin
  rw [show (dats m ρ 0 c).owed t0_0.castSucc = O₀ c from rfl]
  iintro ⟨⟨⟨⟨%K, HR⟩, Hlev, HB⟩, Hscr⟩, ⟨%W, -, HO⟩, ⟨%d0, Hx⟩, ⟨%d1, Hout⟩⟩
  ihave Hx := (Entails.of_eq (congrArg (buf c cc0_stg0_0 fullShare) (before_x m ρ c d0))) $$ Hx
  have hq : ∀ {p : Prog (TpuEff nD τ sig (Elt F) Λ₀ .tc) PUnit}, WP c p (fun _ => Finish m ρ c) ⊢ WP c p (fun _ => post m ρ c) :=
    Idealize.SL.Sem.wp_mono _ _ _ (fun _ => finish_post m ρ c)
  iapply hq
  iapply (body_ok m ρ K c _)
  isplitl [HR]; · iexact HR
  isplitl [Hlev]; · iexact Hlev
  isplitl [HB]; · iexact HB
  isplitl [HO]; · unfold debt; iexists W; iexact HO
  isplitl [Hx]; · iexact Hx
  isplitl [Hout]; · iexact Hout
  iexact Hscr

/-! ## The launch's ghost state -/

/-- The kernel's own semaphores. -/
def osem (x : Fin 10 ⊕ Fin 10) : SemLoc sig := csem (.inr x)

/-- The kernel's own semaphores are none of the pipeline's. -/
theorem ownSemFacts : Pipeline.OwnSemFacts cfg0.spec osem := by decide
/-- Every window is held with the full share. -/
theorem share_eq (c : Dev nD) (w : Fin cfg0.W) : (dats m ρ 0 c).share w = fullShare := by unfold Dat.share; split <;> rfl

/-- Different cells of a device have different semaphores. -/
theorem csem_injective : Function.Injective csem := by
  intro x y h
  have hr := congrArg roleOf h
  rcases x with x | x | x <;> rcases y with y | y | y <;> simp only [csem, role_bar, role_send, role_recv] at hr <;>
    first | (cases hr; rfl) | cases hr

/-- Different cells are different. -/
theorem kcell_injective : Function.Injective (kcell : Dev nD × Kx → GSem nD τ sig) := fun ⟨c, x⟩ ⟨d, y⟩ h =>
  Prod.ext (congrArg (fun g : GSem nD τ sig => g.1.1) h) (csem_injective (congrArg Prod.snd h))
/-- All the cells of all the devices. -/
def allCells : Finset (GSem nD τ sig) := Finset.univ.map ⟨kcell, kcell_injective⟩

/-- The duties of device `c`'s own cells: ten of its barrier, one of each send cell, one of each receive cell. -/
abbrev Dx : Type := Fin 10 ⊕ (Fin 10 ⊕ Fin 10)
/-- A duty as a cell, its round and its number in the round. -/
def duty : Dev nD × Dx → GSem nD τ sig × ℕ × Fin 10
  | (c, .inl j) => (barCell c, 0, j)
  | (c, .inr (.inl j)) => (sendCell c j, 0, 0)
  | (c, .inr (.inr j)) => (recvCell c j, 0, 0)
/-- Different duties are different. -/
theorem duty_injective : Function.Injective duty := by
  rintro ⟨c, x⟩ ⟨d, y⟩ h
  have hc : c = d := by
    have := congrArg (fun g : GSem nD τ sig × ℕ × Fin 10 => g.1.1.1) h
    rcases x with x | x | x <;> rcases y with y | y | y <;> exact this
  subst hc
  have hr := congrArg (fun g : GSem nD τ sig × ℕ × Fin 10 => (roleOf g.1.2, g.2.2)) h
  rcases x with x | x | x <;> rcases y with y | y | y <;> simp only [duty, role_bar, role_send, role_recv] at hr <;> first | (cases hr; rfl) | cases hr
/-- All the duties of all the devices. -/
def allDuties : Finset (GSem nD τ sig × ℕ × Fin 10) := Finset.univ.map ⟨duty, duty_injective⟩

/-- The ghost state at the start. -/
def u₀ : UU := (initOf (Pipeline.cells cfgs cellOf_inj) (Pipeline.launchToks cfgs cellOf_inj), initOf allCells allDuties)

/-- The duty tokens of device `c`'s own cells, -/
def ownDuties (c : Dev nD) : sProp 𝕄 :=
  iprop((bigSep Finset.univ fun j : Fin 10 => dutyTok ER (barCell c) 0 j) ∗ (bigSep Finset.univ fun j : Fin 10 => dutyTok ER (sendCell c j) 0 0)
    ∗ bigSep Finset.univ fun j : Fin 10 => dutyTok ER (recvCell c j) 0 0)
/-- and of the duties that it pays. -/
def paidDuties (c : Dev nD) : sProp 𝕄 :=
  iprop((bigSep Finset.univ fun j : Fin 10 => dutyTok ER (barCell (peer c j)) 0 j) ∗ (bigSep Finset.univ fun j : Fin 10 => dutyTok ER (sendCell c j) 0 0)
    ∗ bigSep Finset.univ fun j : Fin 10 => dutyTok ER (recvCell (peer c j) j) 0 0)

/-- What device `c` gets of the rounds' ghost state. -/
def dealt (c : Dev nD) : sProp 𝕄 :=
  iprop((bigSep Finset.univ fun x : Kx => roundState ER (plan (F := F) m ρ) (kcell (c, x)) 0)
    ∗ (bigSep Finset.univ fun x : Kx => reached ER (kcell (c, x)) 0)
    ∗ (bigSep Finset.univ fun x : Kx => atPos ER (kcell (c, x)) 0 ∅ 0) ∗ ownDuties (F := F) c)
/-- What the allocation makes of it. -/
def ready (c : Dev nD) : sProp 𝕄 :=
  iprop((∃ K, records m ρ K) ∗ (bigSep Finset.univ fun x : Kx => atPos ER (kcell (c, x)) 0 ∅ 0) ∗ paidDuties (F := F) c)

/-- The ghost state of the kernel's cells can be dealt out to the devices. -/
theorem fund_all : BI.own (ER (initOf allCells allDuties)) ⊢ (|==> bigSep Finset.univ (dealt m ρ) : sProp 𝕄) := by
  have hX (Φ : GSem nD τ sig → sProp 𝕄) : bigSep allCells Φ = bigSep Finset.univ fun c : Dev nD => bigSep Finset.univ fun x : Kx => Φ (kcell (c, x)) := by
    unfold allCells; rw [bigSep_map, bigSep_univ_prod]; rfl
  have hT : bigSep allDuties (fun x => (dutyTok ER x.1 x.2.1 x.2.2 : sProp 𝕄)) = bigSep Finset.univ fun c : Dev nD => ownDuties c := by
    unfold allDuties; rw [bigSep_map, bigSep_univ_prod]
    exact bigSep_congr fun c _ => by unfold ownDuties; rw [bigSep_univ_sum, bigSep_univ_sum]; rfl
  iintro HX
  imod (Rounds.fund ER (plan m ρ) allCells allDuties) $$ HX with ⟨Hst, Hr, Hat, Htok⟩
  imodintro
  ihave Hst := (Entails.of_eq (hX fun g => roundState ER (plan m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold dealt; simp only [bigSep_sep']
  isplitl [Hst]; · iexact Hst
  isplitl [Hr]; · iexact Hr
  isplitl [Hat]; · iexact Hat
  iexact Htok

omit [FloatOps F] in
/-- The launch's semaphores of a device, its own and the barrier's, are its twenty-one cells. -/
theorem sems_all (c : Dev nD) :
    (bigSep Finset.univ fun x : Kx => semVal (kcell (c, x)) 0 : sProp 𝕄)
      = iprop(unscopedSems0 c ∗ Pipeline.ownSems0 (Ix := Unit) (Name := ℕ) (U := UU) (Lvl := ℕ) (Val := Elt F) (τ := τ) osem c) := by
  rw [bigSep_univ_sum, bigSep_univ_of_subsingleton (i := ())]
  have hu : (unscopedSems0 c : sProp 𝕄) = semVal (barCell c) 0 := by
    unfold unscopedSems0; rw [bigSep_eq_bigSepL_of_eq [SemLoc.reg barS] (by decide) (by decide)]; rfl
  rw [hu]; rfl

/-- A device's invariants, each under some name. -/
theorem alloc_one (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun x : Kx => iprop(∃ κ : ℕ, cellInv ER (plan (F := F) m ρ) κ (kcell (c, x))))
          ∗ (bigSep Finset.univ fun x : Kx => reached ER (kcell (c, x)) 0)
          ∗ (bigSep Finset.univ fun x : Kx => atPos ER (kcell (c, x)) 0 ∅ 0) ∗ ownDuties (F := F) c) := by
  have hall : iprop((bigSep Finset.univ fun x : Kx => semVal (kcell (c, x)) 0) ∗ bigSep Finset.univ fun x : Kx => roundState ER (plan (F := F) m ρ) (kcell (c, x)) 0)
      ⊢ (|={Set.univ}=> bigSep Finset.univ fun x : Kx => iprop(∃ κ : ℕ, cellInv ER (plan (F := F) m ρ) κ (kcell (c, x))) : sProp 𝕄) := by
    rw [← bigSep_sep']
    exact (bigSep_mono fun x _ => (Rounds.body_intro ER (plan m ρ) (kcell (c, x))).trans inv_alloc).trans (bigSep_fupd _ _)
  unfold dealt
  iintro ⟨Hown, Hbar, Hst, Hrest⟩
  imod hall $$ [Hown Hbar Hst] with Hinv
  · isplitr [Hst]
    · rw [sems_all]
      isplitl [Hbar]; · iexact Hbar
      iexact Hown
    iexact Hst
  imodintro
  isplitl [Hinv]; · iexact Hinv
  iexact Hrest

/-- Pairs of a device and an exchange, each sent to the partner's. -/
def cross : Dev nD × Fin 10 ≃ Dev nD × Fin 10 :=
  Function.Involutive.toPerm (fun x => (peer x.1 x.2, x.2)) fun x => Prod.ext (peer_peer x.1 x.2) rfl

omit [FloatOps F] in
/-- Something of every device and exchange, handed to the partners. -/
theorem exchange (P : Dev nD → Fin 10 → sProp 𝕄) :
    (bigSep Finset.univ fun c => bigSep Finset.univ fun j => P c j) = bigSep Finset.univ fun c => bigSep Finset.univ fun j => P (peer c j) j := by
  rw [← bigSep_univ_prod (fun x : Dev nD × Fin 10 => P x.1 x.2), bigSep_univ_equiv cross, bigSep_univ_prod]; rfl

omit [FloatOps F] in
/-- Dealing the duties to those who pay them. -/
theorem duties_dealt : (bigSep Finset.univ fun c : Dev nD => ownDuties (F := F) c) = bigSep Finset.univ fun c : Dev nD => paidDuties (F := F) c := by
  unfold ownDuties paidDuties
  rw [bigSep_sep', bigSep_sep', bigSep_sep', bigSep_sep',
    exchange (fun c j => dutyTok ER (barCell c) 0 j), exchange (fun c j => dutyTok ER (recvCell c j) 0 0)]

/-- With all invariants there, the names are chosen once for all devices. -/
theorem regroup :
    (bigSep Finset.univ fun c : Dev nD => iprop((bigSep Finset.univ fun x : Kx => iprop(∃ κ : ℕ, cellInv ER (plan (F := F) m ρ) κ (kcell (c, x))))
          ∗ (bigSep Finset.univ fun x : Kx => reached ER (kcell (c, x)) 0)
          ∗ (bigSep Finset.univ fun x : Kx => atPos ER (kcell (c, x)) 0 ∅ 0) ∗ ownDuties (F := F) c))
      ⊢ bigSep Finset.univ (ready m ρ) := by
  rw [bigSep_sep', bigSep_sep', bigSep_sep', duties_dealt,
    ← bigSep_univ_prod (fun cx : Dev nD × Kx => iprop(∃ κ : ℕ, cellInv ER (plan (F := F) m ρ) κ (kcell cx))),
    ← bigSep_univ_prod (fun cx : Dev nD × Kx => (reached ER (kcell cx) 0 : sProp 𝕄))]
  have hone (K : Dev nD × Kx → ℕ) : iprop(records m ρ K ∗ bigSep Finset.univ fun c : Dev nD =>
        iprop((bigSep Finset.univ fun x : Kx => atPos ER (kcell (c, x)) 0 ∅ 0) ∗ paidDuties (F := F) c)) ⊢ bigSep Finset.univ (ready m ρ) :=
    bigSep_with_persistent fun c _ => by
      unfold ready
      iintro ⟨HR, H⟩
      isplitl [HR]; · iexists K; iexact HR
      iexact H
  iintro ⟨HI, Hr, Hat, Htok⟩
  ihave HK := (BI.bigSep_exists_pi Finset.univ (fun (cx : Dev nD × Kx) (κ : ℕ) => (cellInv ER (plan (F := F) m ρ) κ (kcell cx) : sProp 𝕄))) $$ HI
  icases HK with ⟨%K, HI⟩
  iapply (hone K)
  isplitl [HI Hr]
  · unfold records; rw [bigSep_sep']
    isplitl [HI]; · iexact HI
    iexact Hr
  rw [bigSep_sep']
  isplitl [Hat]; · iexact Hat
  iexact Htok

/-- The whole allocation. -/
theorem alloc_all : (bigSep Finset.univ fun c => iprop(Pipeline.ownSems0 (Ix := Unit) (Name := ℕ) (U := UU) (Lvl := ℕ) (Val := Elt F) (τ := τ) osem c
      ∗ unscopedSems0 c ∗ dealt m ρ c) : sProp 𝕄) ⊢ |={Set.univ}=> bigSep Finset.univ (ready m ρ) :=
  ((bigSep_mono fun c _ => alloc_one m ρ c).trans (bigSep_fupd _ _)).trans (BI.fupd_mono (regroup m ρ))

/-! ## The tokens for the waits -/

/-- A sum of tallies at a cell is the sum of their values there. -/
theorem sum_at {ι : Type} [DecidableEq ι] (S : Finset ι) (f : ι → CellTallies nD τ sig Unit) (g : GSem nD τ sig) (u : Unit) :
    (∑ j ∈ S, f j) g u = ∑ j ∈ S, f j g u := by
  rw [Finset.sum_apply, Finsupp.finset_sum_apply]

/-- Partners are partners of each other. -/
theorem peer_eq_iff (c d : Dev nD) (j : Fin 10) : c = peer d j ↔ d = peer c j :=
  ⟨fun h => by rw [h, peer_peer], fun h => by rw [h, peer_peer]⟩

/-- What `d` owes the barrier of `c`: a unit for every exchange in which they are partners. -/
theorem owed_bar (d c : Dev nD) : O₀ d (barCell c) () = ∑ j : Fin 10, if d = peer c j then 1 else 0 := by
  have hR : owedR d 0 (barCell c) () = 0 := Nat.eq_zero_of_not_pos fun h => by
    obtain ⟨j, -, hj⟩ := owedR_pos h
    have hc := (cellRole_bar c).symm.trans ((congrArg cellRole hj).trans (cellRole_recv _ _))
    cases hc
  unfold O₀
  rw [Pi.add_apply, Finsupp.add_apply, hR, Nat.zero_add]
  unfold owedB
  rw [span_all, sum_at]
  refine Finset.sum_congr rfl fun j _ => ?_
  rw [tallyAt_apply]
  refine if_congr ⟨fun h => (peer_eq_iff c d j).mp (congrArg (fun g : GSem nD τ sig => g.1.1) h.1), fun h => ⟨?_, rfl⟩⟩ rfl rfl
  rw [h, peer_peer]

/-- What `d` owes the receive cell `j` of `c`. -/
theorem owed_recv (d c : Dev nD) (j : Fin 10) : O₀ d (recvCell c j) () = if d = peer c j then N else 0 := by
  have hB : owedB d 0 (recvCell c j) () = 0 := Nat.eq_zero_of_not_pos fun h => by
    obtain ⟨i, hi⟩ := owedB_pos h
    have hc := (cellRole_recv c j).symm.trans ((congrArg cellRole hi).trans (cellRole_bar _))
    cases hc
  unfold O₀
  rw [Pi.add_apply, Finsupp.add_apply, hB, Nat.add_zero]
  unfold owedR
  rw [span_all, sum_at, Finset.sum_eq_single j]
  · rw [tallyAt_apply]
    refine if_congr ⟨fun h => (peer_eq_iff c d j).mp (congrArg (fun g : GSem nD τ sig => g.1.1) h.1), fun h => ⟨?_, rfl⟩⟩ rfl rfl
    rw [h, peer_peer]
  · intro i _ hi
    rw [tallyAt_apply]
    refine if_neg fun h => hi ?_
    have := (cellRole_recv c j).symm.trans ((congrArg cellRole h.1).trans (cellRole_recv _ _))
    exact (Role.recv.inj this).symm
  · exact fun h => absurd (Finset.mem_univ _) h

/-- A cell's launch credit is what all the devices together owe it. -/
theorem credit_at (g : GSem nD τ sig) (k : ℕ) (h : ∑ d : Dev nD, O₀ d g () = k) :
    tallyOn g (launchCredit (Pipeline.owing O₀) 0 g) = (tallyAt g () k : CellTallies nD τ sig Unit) := by
  refine congrArg (tallyOn g) (Finsupp.ext fun u => ?_)
  rw [Pipeline.launchCredit_owing, ← h]
  exact (Finsupp.single_eq_same (a := ()) (b := ∑ d : Dev nD, O₀ d g ())).symm

/-- The devices owe a barrier ten units, one from each of its partners. -/
theorem owed_bar_sum (c : Dev nD) : ∑ d : Dev nD, O₀ d (barCell c) () = 10 := by
  simp only [owed_bar]
  rw [Finset.sum_comm]
  simp

/-- The devices owe a receive cell one row. -/
theorem owed_recv_sum (c : Dev nD) (j : Fin 10) : ∑ d : Dev nD, O₀ d (recvCell c j) () = N := by
  simp only [owed_recv, Finset.sum_ite_eq', Finset.mem_univ, if_true]

/-- The launch's credit of a device: ten units of its barrier and a row of each receive cell. -/
theorem credits (c : Dev nD) : (Pipeline.launchCred O₀ c : sProp 𝕄)
    ⊢ iprop(cred (tallyAt (barCell c) () 10) ∗ bigSep Finset.univ fun j : Fin 10 => cred (tallyAt (recvCell c j) () N)) := by
  have hb := congrArg (fun t => (cred t : sProp 𝕄)) (credit_at (barCell c) 10 (owed_bar_sum c))
  have hr := fun j => congrArg (fun t => (cred t : sProp 𝕄)) (credit_at (recvCell c j) N (owed_recv_sum c j))
  unfold Pipeline.launchCred
  refine BI.Entails.trans (bigSep_subset (Finset.subset_univ (Finset.univ.map ⟨csem, csem_injective⟩))) ?_
  rw [bigSep_map, bigSep_univ_sum, bigSep_univ_sum, bigSep_univ_of_subsingleton (i := ())]
  exact (show iprop(cred (tallyOn (barCell c) (launchCredit (Pipeline.owing O₀) 0 (barCell c)))
      ∗ (bigSep Finset.univ fun j : Fin 10 => cred (tallyOn (sendCell c j) (launchCredit (Pipeline.owing O₀) 0 (sendCell c j))))
      ∗ (bigSep Finset.univ fun j : Fin 10 => cred (tallyOn (recvCell c j) (launchCredit (Pipeline.owing O₀) 0 (recvCell c j)))))
    ⊢ iprop(cred (tallyAt (barCell c) () 10) ∗ bigSep Finset.univ fun j : Fin 10 => cred (tallyAt (recvCell c j) () N)) from by
      rw [hb, bigSep_congr fun j _ => hr j]
      iintro ⟨H1, -, H3⟩
      isplitl [H1]; · iexact H1
      iexact H3)

/-! ## The conditions of the launch theorem -/

/-- What the launch gives a device is what its body starts from. -/
theorem start_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ ready m ρ c)
      ⊢ |={Set.univ}=> iprop(start m ρ c ∗ emp) := by
  iintro ⟨-, Hlev, Hcr, -, HG⟩
  ihave Hc := (credits (F := F) c) $$ Hcr
  icases Hc with ⟨Hcb, Hcr⟩
  unfold ready paidDuties
  icases HG with ⟨HR, Hat, Htb, Hts, Htr⟩
  ihave Hat := (show (bigSep Finset.univ fun x : Kx => atPos ER (kcell (c, x)) 0 ∅ 0 : sProp 𝕄) ⊢ iprop(atPos ER (barCell c) 0 ∅ 0
      ∗ (bigSep Finset.univ fun j : Fin 10 => atPos ER (sendCell c j) 0 ∅ 0) ∗ bigSep Finset.univ fun j : Fin 10 => atPos ER (recvCell c j) 0 ∅ 0) from by
    rw [bigSep_univ_sum, bigSep_univ_sum, bigSep_univ_of_subsingleton (i := ())]; exact .rfl) $$ Hat
  icases Hat with ⟨Hab, Has, Har⟩
  imodintro
  isplitl
  · unfold start Begin
    isplitl [HR]; · iexact HR
    isplitl [Hlev]; · iexact Hlev
    isplitl [Hab]; · iexact Hab
    isplitl [Hcb]; · iexact Hcb
    isplitl [Has]; · iexact Has
    isplitl [Har]; · iexact Har
    isplitl [Hcr]; · iexact Hcr
    isplitl [Htb]; · iexact Htb
    isplitl [Hts]; · iexact Hts
    iexact Htr
  · iempintro

/-- The scratch buffers join the ghost state before the point, -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

/-- and leave it after the point, with the counters at zero. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, scopedRest0_eq]
  unfold Φ₁ scratch
  rw [sems_all]
  iintro ⟨Hr, Hb, Ho⟩
  isplitl [Hb]; · iexact Hb
  isplitl [Ho]; · iexact Ho
  iexact Hr

/-- The pipeline's own waits are allowed, before the point and after it. -/
theorem stage_waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- What window `w`'s array holds on device `c` in the end. -/
def finalAt (c : Dev nD) (w : Fin cfg0.W) : Buf (Elt F) ((cfg0.win w).arr.view.loc (c : Thread nD τ)) := (dats m ρ 0 c).arrAt w cfg0.N

/-- Every device's arrays hold their final contents. -/
def Ends : PUnit × MemSt nD τ sig (Elt F) → Prop := fun r =>
  ∀ c : Dev nD, ∀ w : Fin cfg0.W, r.2.mem ((cfg0.win w).arr.view.loc (c : Thread nD τ)) = finalAt m ρ c w

set_option maxRecDepth 8000 in
/-- Over any float values and from any memory with zero counters, every weakly fair execution of the program on the
    thirty-two devices ends, with the arrays at their final contents and all counters at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := fun _ h => if_neg h) (hwaits := stage_waits m ρ)
    (G := dealt m ρ) (G' := ready m ρ) (u₀ := u₀)
    (hu₀ := by
      unfold u₀
      iintro Hu
      ihave H := (ownU_pair _ _) $$ Hu
      icases H with ⟨HP, HX⟩
      imod (fund_all m ρ) $$ HX with HG
      imodintro
      isplitl [HP]; · iexact HP
      iexact HG)
    (hglob := alloc_all m ρ)
    (hA := fun _ _ => rfl) (hpf := fun _ k => k.elim0)
    (X := start m ρ) (Y := fun c => unscopedSems0 c) (Z := fun _ => iprop(emp))
    (hX := start_of m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The block of `x` after the run is what it was. -/
theorem final_x (c : Dev nD) : finalAt m ρ c (0 : Fin 2) = (s₀ m ρ).mem (win0_0.arr.view.loc (c : Thread nD τ)) :=
  (dats (F := F) m ρ 0 c).arrAt_in (0 : Fin 2) rfl _

end Cert.ColMax

end
-- ==== Proof.Value.lean ====
/-
# What the ten exchanges compute

Read over the extended reals, where a change of format changes nothing: every device ends with the maximum of each column
over all the rows that the thirty-two devices hold, which is the column maximum of the whole array.
-/
module

public import proofs.«01_k».proof.Proof.Launch
public import proofs.«01_k».proof.Proof.Gen.ReferenceIdeal.Run
public import Idealize.ShloMosaic.PureOps.Ideal.Laws
public import Idealize.ShloMosaic.Lib.KernelVsHost
public import Idealize.ShloMosaic.Lib.Layout

@[expose] public section

noncomputable section

namespace Cert.ColMax

open Cert.KernelIdeal Cert.KernelIdeal.Gen

open Idealize.ShloMosaic
open Idealize.ShloMosaic.TcCoe
open Idealize.ShloMosaic.ValueIdx
open Idealize.SL.Sem

/-- Two indices of a rectangle agree when both coordinates do. -/
theorem pair_ext {n k : ℕ} {i j : (⟨2, ![n, k]⟩ : Shape).Idx} (h0 : (i 0).val = (j 0).val) (h1 : (i 1).val = (j 1).val) : i = j :=
  funext fun a => by fin_cases a; exacts [Fin.ext h0, Fin.ext h1]

/-! ## The staged blocks -/

section Staged

variable {F : FTy → Type} [FloatOps F] (m : (ℓ : Loc nD τ sig) → Buf (Elt F) ℓ) (ρ : Dev nD → PrngReg)

/-- The block a device stages is the whole of its own array. -/
theorem xAt_eq (c : Dev nD) : xAt m ρ c = m ((c : Thread nD τ).loc main_arg0) := by
  funext i
  show m ((c : Thread nD τ).loc main_arg0) ((win0_0.blk (0 : Fin 1)).view.emb i) = _
  refine congrArg _ (pair_ext ?_ ?_) <;> blk_simp
  · exact Nat.zero_add _
  · exact Nat.zero_add _

/-- The result array of a device ends at what its body computed. -/
theorem final_o (c : Dev nD) : finalAt m ρ c (1 : Fin 2) = outAt m ρ c := by
  refine (dats m ρ 0 c).arrAt_eq_of_after_last (1 : Fin 2) t0_0 (by decide +kernel) _ fun j => ?_
  blk_simp
  rfl

end Staged

/-! ## Maxima as suprema -/

/-- The pattern the kernel starts its maxima from is minus infinity. -/
theorem bot_bf16 : (FloatOps.ofBits .bf16 0xFF80#16 : Ideal .bf16) = (⊥ : EReal) := by
  show Ideal.ofBits .bf16 0xFF80#16 = ⊥
  simp [Ideal.ofBits, Ideal.ieee]

/-- A maximum taken over finitely many values from minus infinity is their supremum. -/
theorem fold_max_bot {n : ℕ} (f : Fin n → EReal) : (Finset.univ : Finset (Fin n)).fold max ⊥ f = ⨆ k, f k :=
  Finset.sup_univ_eq_iSup f

/-- The maximum along one axis, at one index, is the supremum over that axis. -/
theorem reduce_max {s t : Shape} {a : Fin s.rank} (src : s.Idx → EReal) (h : s.Reduces [a] t)
    (hφ : FKind.Formats .bf16) (hacc : (0xFF80#16 : BitVec 16) = FKind.maximumf.neutral .bf16 hφ) (j : t.Idx) :
    @Eq EReal (multiReduction .maximumf [a] t (show FVec Ideal s .bf16 from src) 0xFF80#16 h hφ hacc j)
      (⨆ k : Fin (s.size a), src (h.lift j k)) := by
  refine (Ideal.multiReduction_maximumf_single _ _ h hφ hacc j).trans ?_
  rw [bot_bf16]
  exact fold_max_bot _

/-! ## The three results a device computes, lane by lane -/

/-- The first result: lane `l` is the supremum of column `l` of the staged block. -/
theorem own_max (x : S1024x512.Idx → EReal) (l : Fin 512) :
    (k0_pay1 (F := Ideal) x : S1x512.Idx → EReal) (ix2 0 l) = ⨆ r : Fin 1024, x (ix2 r l) := by
  unfold k0_pay1
  dsimp only
  rw [shapeCast_apply _ _ _ (ix2 (0 : Fin 1) l) rfl, shapeCast_apply _ _ _ (ix1 l) (by rw [Shape.rowMajor_val_two, Shape.rowMajor_val_one]; simp [ix1, ix2])]
  refine (reduce_max _ _ _ _ _).trans (iSup_congr fun r => ?_)
  exact shapeCast_apply _ _ _ (ix2 r l) (congrArg (fun i => (S1024x512.rowMajor i).val) (pair_ext rfl rfl))

/-- The second result: lane `l` is the supremum of that lane over the seven landed rows and the device's own. -/
theorem octet_max (g : (Stk 7).Idx → EReal) (a : S1x512.Idx → EReal) (l : Fin 512) :
    (k0_pay2 (F := Ideal) g a : S1x512.Idx → EReal) (ix2 0 l) = (⨆ i : Fin 7, g (ix3 i 0 l)) ⊔ a (ix2 0 l) := by
  unfold k0_pay2
  dsimp only
  rw [shapeCast_apply _ _ _ (ix2 (0 : Fin 1) l) rfl]
  refine congrArg (· ⊔ a (ix2 0 l)) ((reduce_max g _ _ _ _).trans (iSup_congr fun i => congrArg g ?_))
  exact Shape.idx3_ext rfl rfl rfl

/-- The third result: the same over the three rows landed in the second level; the widening changes nothing. -/
theorem mesh_max (g : (Stk 3).Idx → EReal) (a : S1x512.Idx → EReal) (l : Fin 512) :
    (k0_pay3 (F := Ideal) g a : S1x512.Idx → EReal) (ix2 0 l) = (⨆ i : Fin 3, g (ix3 i 0 l)) ⊔ a (ix2 0 l) := by
  unfold k0_pay3
  refine congrArg (· ⊔ a (ix2 0 l)) ((reduce_max g _ _ _ _).trans (iSup_congr fun i => congrArg g ?_))
  exact Shape.idx3_ext rfl rfl rfl

/-! ## Every device is met -/

/-- From any device every device is reached by at most one exchange of the second level and then at most one of the first. -/
theorem reach (c d : Dev nD) :
    (d = c ∨ ∃ j : Fin 7, d = peer c (exA j)) ∨ ∃ i : Fin 3, d = peer c (exB i) ∨ ∃ j : Fin 7, d = peer (peer c (exB i)) (exA j) := by
  revert c d
  decide +kernel

/-- So a supremum gathered in two levels, over octets and then between them, is the supremum over all devices. -/
theorem two_levels (f : Dev nD → EReal) (c : Dev nD) :
    (⨆ i : Fin 3, ((⨆ j : Fin 7, f (peer (peer c (exB i)) (exA j))) ⊔ f (peer c (exB i)))) ⊔ ((⨆ j : Fin 7, f (peer c (exA j))) ⊔ f c)
      = ⨆ d, f d := by
  refine le_antisymm (sup_le (iSup_le fun i => sup_le (iSup_le fun j => le_iSup f _) (le_iSup f _))
    (sup_le (iSup_le fun j => le_iSup f _) (le_iSup f _))) (iSup_le fun d => ?_)
  rcases reach c d with (rfl | ⟨j, rfl⟩) | ⟨i, rfl | ⟨j, rfl⟩⟩
  · exact le_sup_right.trans le_sup_right
  · exact (le_iSup (fun j => f (peer c (exA j))) j).trans (le_sup_left.trans le_sup_right)
  · exact le_sup_right.trans ((le_iSup (fun i => (⨆ j : Fin 7, f (peer (peer c (exB i)) (exA j))) ⊔ f (peer c (exB i))) i).trans le_sup_left)
  · exact (le_iSup (fun j => f (peer (peer c (exB i)) (exA j))) j).trans (le_sup_left.trans
      ((le_iSup (fun i => (⨆ j : Fin 7, f (peer (peer c (exB i)) (exA j))) ⊔ f (peer c (exB i))) i).trans le_sup_left))

/-! ## The kernel's result is the reference's -/

/-- The greatest element of column `l` of the whole array. -/
def colMax (X : Cert.ReferenceIdeal.S32768x512.Idx → EReal) (l : Fin 512) : EReal := ⨆ R : Fin 32768, X (ix2 R l)

/-- Laying a row of 512 values out as one row of a matrix and widening it changes no value. -/
theorem ref_row (y : Cert.ReferenceIdeal.S512.Idx → EReal) (l : Fin 512) :
    @Eq EReal (extf .f32 (broadcastInDim Cert.ReferenceIdeal.S1x512 ![1] Cert.ReferenceIdeal.Gen.bcast_S512_S1x512_1
      (show FVec Ideal Cert.ReferenceIdeal.S512 .bf16 from y)) Cert.ReferenceIdeal.Gen.bitsLt_bf16_f32 (ix2 (0 : Fin 1) l)) (y (ix1 l)) :=
  broadcastInDim_apply _ Cert.ReferenceIdeal.Gen.bcast_S512_S1x512_1 y _ (ix1 l) fun a => by
    obtain rfl : a = 0 := Subsingleton.elim _ _
    rfl

/-- Lane `l` of what the reference computes is the greatest element of column `l`. -/
theorem ref_max (X : Cert.ReferenceIdeal.S32768x512.Idx → EReal) (l : Fin 512) :
    (extf .f32 (broadcastInDim Cert.ReferenceIdeal.S1x512 ![1] Cert.ReferenceIdeal.Gen.bcast_S512_S1x512_1
      (Host.reduce FloatOps.maximumf (X : FVec Ideal Cert.ReferenceIdeal.S32768x512 .bf16) (constant (F := Ideal) Cert.ReferenceIdeal.S_ .bf16 0xFF80#16)
        Cert.ReferenceIdeal.Gen.reducesTo_S32768x512_S512_d0 Cert.ReferenceIdeal.Gen.h_S_)) Cert.ReferenceIdeal.Gen.bitsLt_bf16_f32
      : S1x512.Idx → EReal) (ix2 0 l) = colMax X l := by
  have hR : Cert.ReferenceIdeal.S32768x512.Reduces [0] Cert.ReferenceIdeal.S512 := by decide
  rw [hostReduce_maximumf_eq_multiReduction _ 0xFF80#16 _ _ hR (.inr rfl) rfl]
  refine (ref_row _ l).trans ((reduce_max X _ _ _ _).trans (iSup_congr fun R => congrArg X ?_))
  exact pair_ext rfl rfl

/-- The rows of the thirty-two blocks are the rows of the whole array. -/
theorem blocks_max (X : Cert.ReferenceIdeal.S32768x512.Idx → EReal) (l : Fin 512) :
    (⨆ d : Fin 32, ⨆ r : Fin 1024, Layout.block S1024x512 Cert.ReferenceIdeal.S32768x512 0 32 d X (by decide) (ix2 r l)) = colMax X l := by
  refine le_antisymm (iSup_le fun d => iSup_le fun r => ?_) (iSup_le fun R => ?_)
  · refine le_of_eq_of_le (congrArg X ?_) (le_iSup (fun R : Fin 32768 => X (ix2 R l)) ⟨d.val * 1024 + r.val, by have := d.isLt; have := r.isLt; omega⟩)
    exact pair_ext rfl rfl
  · refine le_trans (le_of_eq (congrArg X ?_)) ((le_iSup (fun r : Fin 1024 => Layout.block S1024x512 Cert.ReferenceIdeal.S32768x512 0 32
      (⟨R.val / 1024, by have := R.isLt; omega⟩ : Fin 32) X (by decide) (ix2 r l)) ⟨R.val % 1024, Nat.mod_lt _ (by decide)⟩).trans
      (le_iSup (fun d : Fin 32 => ⨆ r : Fin 1024, Layout.block S1024x512 Cert.ReferenceIdeal.S32768x512 0 32 d X (by decide) (ix2 r l)) _))
    refine pair_ext ?_ rfl
    show R.val = R.val / 1024 * 1024 + R.val % 1024
    omega

/-- Lane `l` of a device's result is the greatest element of column `l` of the array that the devices hold in blocks. -/
theorem outAt_max (m : (ℓ : Loc nD τ sig) → Buf (Elt Ideal) ℓ) (ρ : Dev nD → PrngReg) (X : Cert.ReferenceIdeal.S32768x512.Idx → EReal)
    (hX : ∀ d : Dev nD, m ((d.tc : Thread nD τ).loc main_arg0) = Layout.block S1024x512 Cert.ReferenceIdeal.S32768x512 0 32 d X (by decide))
    (c : Dev nD) (l : Fin 512) : (outAt m ρ c : S1x512.Idx → EReal) (ix2 0 l) = colMax X l := by
  let A : Dev nD → EReal := fun d => accA m ρ d (ix2 (0 : Fin 1) l)
  let B : Dev nD → EReal := fun d => accB m ρ d (ix2 (0 : Fin 1) l)
  have hA : ∀ d, A d
      = ⨆ r : Fin 1024, Layout.block S1024x512 Cert.ReferenceIdeal.S32768x512 0 32 d X (by decide) (ix2 r l) := fun d => by
    show k0_pay1 (F := Ideal) (xAt m ρ d) (ix2 (0 : Fin 1) l) = _
    rw [xAt_eq, hX d]
    exact own_max _ l
  have hB : ∀ d, B d = (⨆ j : Fin 7, A (peer d (exA j))) ⊔ A d := fun d => octet_max _ _ l
  refine (mesh_max _ _ l).trans ?_
  refine Eq.trans ?_ ((two_levels A c).trans
    ((iSup_congr hA).trans (blocks_max X l)))
  exact congrArg₂ (· ⊔ ·) (iSup_congr fun i => hB _) (hB c)

/-- Where the devices hold the reference's array in blocks, every device's result is what the reference computes. -/
theorem outAt_ref (m : (ℓ : Loc nD τ sig) → Buf (Elt Ideal) ℓ) (ρ : Dev nD → PrngReg) (X : Cert.ReferenceIdeal.S32768x512.Idx → EReal)
    (hX : ∀ d : Dev nD, m ((d.tc : Thread nD τ).loc main_arg0) = Layout.block S1024x512 Cert.ReferenceIdeal.S32768x512 0 32 d X (by decide))
    (c : Dev nD) :
    outAt m ρ c = extf .f32 (broadcastInDim Cert.ReferenceIdeal.S1x512 ![1] Cert.ReferenceIdeal.Gen.bcast_S512_S1x512_1
      (Host.reduce FloatOps.maximumf (X : FVec Ideal Cert.ReferenceIdeal.S32768x512 .bf16) (constant (F := Ideal) Cert.ReferenceIdeal.S_ .bf16 0xFF80#16)
        Cert.ReferenceIdeal.Gen.reducesTo_S32768x512_S512_d0 Cert.ReferenceIdeal.Gen.h_S_)) Cert.ReferenceIdeal.Gen.bitsLt_bf16_f32 := by
  refine funext fun (j : S1x512.Idx) => ?_
  have hj : j = ix2 (0 : Fin 1) (j 1) := pair_ext (Nat.lt_one_iff.mp (j 0).isLt) rfl
  rw [hj]
  exact (outAt_max m ρ X hX c _).trans (ref_max X _).symm

end Cert.ColMax

end
-- ==== Proof.lean ====
module

public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Value
public import Idealize.ShloMosaic.Adequacy
public import Idealize.ShloMosaic.Init

@[expose] public section

noncomputable section

namespace Cert.Proof

open Idealize.ShloMosaic Idealize.ShloMosaic.TcCoe Idealize.SL.Sem

/-- The run over any float values: the argument arrays end as launched, every counter at zero, and every device's result
    at what the exchanges compute. -/
theorem run {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run Cert.KernelIdeal.defs (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_v1) = Cert.ColMax.outAt m ρ c
        ∧ r.2.mem ((c.tc : Thread Cert.KernelIdeal.nD Cert.KernelIdeal.τ).loc Cert.KernelIdeal.main_arg0)
          = m ((c.tc : Thread Cert.KernelIdeal.nD Cert.KernelIdeal.τ).loc Cert.KernelIdeal.main_arg0))
      ∧ r.2.sem = fun _ => 0 :=
  (θ_run Cert.KernelIdeal.defs _ _).mono (fun _ h => ⟨fun c =>
      ⟨(h.1 c (1 : Fin 2)).trans (Cert.ColMax.final_o m ρ c), (h.1 c (0 : Fin 2)).trans (Cert.ColMax.final_x m ρ c)⟩, h.2⟩)
    (Cert.ColMax.run_main m ρ)

/-- The kernel as written and the kernel read over the extended reals have one body table: the two texts are the same. -/
theorem tables_eq {F : FTy → Type} [FloatOps F] : Cert.Kernel.defs (F := F) = Cert.KernelIdeal.defs (F := F) := by
  refine congrArg (Pipeline.defs Cert.KernelIdeal.pcfgs) ?_
  unfold Cert.Kernel.defs₀ Cert.KernelIdeal.defs₀
  refine congrArg Defs.onTc ?_
  funext l a
  match l, a with
  | 0, (_, _) => rfl

/-- The frame of the kernel as written. -/
theorem frame_kernel : Cert.quiescent_Kernel := fun m ρ _ => by
  have h : ∀ D : Defs Cert.KernelIdeal.nD Cert.KernelIdeal.τ Cert.KernelIdeal.sig (Elt Bits) _, D = Cert.KernelIdeal.defs →
      θ_run D (onTc (τ := Cert.KernelIdeal.τ) (Cert.KernelIdeal.main (F := Bits))) ⟨m, fun _ => 0, ρ⟩ fun r =>
        (∀ c : Dev Cert.KernelIdeal.nD,
          r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0))
        ∧ r.2.sem = fun _ => 0 := by
    rintro _ rfl
    exact (θ_run Cert.KernelIdeal.defs _ _).mono (fun _ h => ⟨fun c => (h.1 c).2, h.2⟩) (run (F := Bits) m ρ)
  exact h Cert.Kernel.defs tables_eq

/-- The frame of the kernel read over the extended reals. -/
theorem frame_ideal : Cert.quiescent_KernelIdeal := fun m ρ _ =>
  (θ_run Cert.KernelIdeal.defs _ _).mono (fun _ h => ⟨fun c => (h.1 c).2, h.2⟩) (run (F := Ideal) m ρ)

/-- The frame of the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's, where the devices hold the reference's array in blocks of rows. -/
theorem algebraic : Cert.algebraic_KernelIdeal_ReferenceIdeal := fun m ρ m' ρ' _ hX =>
  ⟨_, (θ_run Cert.KernelIdeal.defs _ _).mono
      (fun _ h c => ⟨(h.1 c).1.trans (Cert.ColMax.outAt_ref m ρ _ hX c), (h.1 c).2⟩) (run (F := Ideal) m ρ),
    (θ_run Cert.ReferenceIdeal.defs _ _).mono (fun _ h => h 0) (Cert.ReferenceIdeal.Value.run (F := Ideal) m' ρ')⟩

/-- Every claim together, after the facts the three programs state. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
